-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1408x1536 : Shape := ⟨3, ![6, 1408, 1536]⟩
abbrev S1536x768 : Shape := ⟨2, ![1536, 768]⟩
abbrev S1536 : Shape := ⟨1, ![1536]⟩
abbrev S8448x1536 : Shape := ⟨2, ![8448, 1536]⟩
abbrev S1x1536 : Shape := ⟨2, ![1, 1536]⟩
abbrev S8448x1 : Shape := ⟨2, ![8448, 1]⟩
abbrev S256x1536 : Shape := ⟨2, ![256, 1536]⟩
abbrev S256x1 : Shape := ⟨2, ![256, 1]⟩
abbrev S1536x1536 : Shape := ⟨2, ![1536, 1536]⟩
abbrev S32x1536 : Shape := ⟨2, ![32, 1536]⟩
abbrev S32x128 : Shape := ⟨2, ![32, 128]⟩
abbrev S32 : Shape := ⟨1, ![32]⟩
abbrev S32x1 : Shape := ⟨2, ![32, 1]⟩
abbrev S256x256 : Shape := ⟨2, ![256, 256]⟩
abbrev S1x256 : Shape := ⟨2, ![1, 256]⟩

abbrev nBuf : Space → Nat
  | .hbm => 8
  | .vmem => 12
  | .smem => 0
  | _ => 0

abbrev bufTy : (tb : Table) → Fin (tcTables nBuf tb) → BufTy
  | .hbm, ⟨0, _⟩ => ⟨S6x1408x1536, .bf16⟩
  | .hbm, ⟨1, _⟩ => ⟨S1536x768, .i8⟩
  | .hbm, ⟨2, _⟩ => ⟨S1536, .f32⟩
  | .hbm, ⟨3, _⟩ => ⟨S8448x1536, .bf16⟩
  | .hbm, ⟨4, _⟩ => ⟨S1x1536, .f32⟩
  | .hbm, ⟨5, _⟩ => ⟨S8448x1536, .bf16⟩
  | .hbm, ⟨6, _⟩ => ⟨S8448x1536, .i8⟩
  | .hbm, ⟨7, _⟩ => ⟨S8448x1, .f32⟩
  | .local _ .vmem, ⟨0, _⟩ => ⟨S256x1536, .bf16⟩
  | .local _ .vmem, ⟨1, _⟩ => ⟨S256x1536, .bf16⟩
  | .local _ .vmem, ⟨2, _⟩ => ⟨S1536x768, .i8⟩
  | .local _ .vmem, ⟨3, _⟩ => ⟨S1x1536, .f32⟩
  | .local _ .vmem, ⟨4, _⟩ => ⟨S256x1536, .bf16⟩
  | .local _ .vmem, ⟨5, _⟩ => ⟨S256x1536, .bf16⟩
  | .local _ .vmem, ⟨6, _⟩ => ⟨S256x1536, .i8⟩
  | .local _ .vmem, ⟨7, _⟩ => ⟨S256x1536, .i8⟩
  | .local _ .vmem, ⟨8, _⟩ => ⟨S256x1, .f32⟩
  | .local _ .vmem, ⟨9, _⟩ => ⟨S256x1, .f32⟩
  | .local _ .vmem, ⟨10, _⟩ => ⟨S1536x1536, .bf16⟩
  | .local _ .vmem, ⟨11, _⟩ => ⟨S256x1536, .bf16⟩
  | _, _ => ⟨S6x1408x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x768 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S6x1408x1536 : Shape := ⟨3, ![6, 1408, 1536]⟩
abbrev S1536x768 : Shape := ⟨2, ![1536, 768]⟩
abbrev S1536 : Shape := ⟨1, ![1536]⟩
abbrev S12x12 : Shape := ⟨2, ![12, 12]⟩
abbrev S6x1408x12x128 : Shape := ⟨4, ![6, 1408, 12, 128]⟩
abbrev S12x6x1408x128 : Shape := ⟨4, ![12, 6, 1408, 128]⟩
abbrev S_ : Shape := ⟨0, ![]⟩
abbrev S8448x1536 : Shape := ⟨2, ![8448, 1536]⟩
abbrev S8448x1 : Shape := ⟨2, ![8448, 1]⟩
abbrev S8448 : Shape := ⟨1, ![8448]⟩
abbrev S8448x768 : Shape := ⟨2, ![8448, 768]⟩
abbrev S1x1536 : Shape := ⟨2, ![1, 1536]⟩

abbrev nBuf : Space → Nat
  | .hbm => 15
  | .vmem => 6
  | .smem => 0
  | _ => 0

abbrev bufTy : (tb : Table) → Fin (tcTables nBuf tb) → BufTy
  | .hbm, ⟨0, _⟩ => ⟨S6x1408x1536, .bf16⟩
  | .hbm, ⟨1, _⟩ => ⟨S1536x768, .i8⟩
  | .hbm, ⟨2, _⟩ => ⟨S1536, .f32⟩
  | .hbm, ⟨3, _⟩ => ⟨S12x12, .f32⟩
  | .hbm, ⟨4, _⟩ => ⟨S6x1408x12x128, .bf16⟩
  | .hbm, ⟨5, _⟩ => ⟨S6x1408x12x128, .f32⟩
  | .hbm, ⟨6, _⟩ => ⟨S12x6x1408x128, .f32⟩
  | .hbm, ⟨7, _⟩ => ⟨S6x1408x12x128, .f32⟩
  | .hbm, ⟨8, _⟩ => ⟨S_, .f32⟩
  | .hbm, ⟨9, _⟩ => ⟨S6x1408x12x128, .f32⟩
  | .hbm, ⟨10, _⟩ => ⟨S6x1408x12x128, .f32⟩
  | .hbm, ⟨11, _⟩ => ⟨S8448x1536, .f32⟩
  | .hbm, ⟨12, _⟩ => ⟨S8448x1536, .bf16⟩
  | .hbm, ⟨13, _⟩ => ⟨S8448x1536, .i8⟩
  | .hbm, ⟨14, _⟩ => ⟨S8448x1, .f32⟩
  | .local _ .vmem, ⟨0, _⟩ => ⟨S8448x1536, .f32⟩
  | .local _ .vmem, ⟨1, _⟩ => ⟨S1536x768, .i8⟩
  | .local _ .vmem, ⟨2, _⟩ => ⟨S1536, .f32⟩
  | .local _ .vmem, ⟨3, _⟩ => ⟨S8448x1536, .bf16⟩
  | .local _ .vmem, ⟨4, _⟩ => ⟨S8448x1536, .i8⟩
  | .local _ .vmem, ⟨5, _⟩ => ⟨S8448x1, .f32⟩
  | _, _ => ⟨S6x1408x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8448x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x768 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8448x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8448x1536 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8448x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Rotate.lean ====
module

public import Mathlib.Data.EReal.Operations
public import Mathlib.Tactic.FinCases
public import Mathlib.Tactic.Ring
public import Mathlib.Tactic.NormNum
public import Mathlib.Algebra.BigOperators.Fin

/-! The rotation of one group of twelve numbers, in extended reals: the kernel's shared-sum form of the twelve signed
sums against the plain sums. On finite numbers they agree; and in either form one infinite number makes every one of
the twelve results infinite. -/

set_option maxRecDepth 16384

@[expose] public noncomputable section

namespace Cert.Rotate

/-- An extended real that is no real number. -/
def Inf (a : EReal) : Prop := a = ⊤ ∨ a = ⊥

theorem inf_top : Inf ⊤ := .inl rfl
theorem inf_bot : Inf ⊥ := .inr rfl

/-- A real number is not infinite. -/
theorem not_inf_coe (r : ℝ) : ¬ Inf (r : EReal) := fun h => h.elim (EReal.coe_ne_top r) (EReal.coe_ne_bot r)

/-- Not infinite: a real number. -/
theorem exists_coe {a : EReal} (h : ¬ Inf a) : ∃ r : ℝ, a = r := by
  induction a with
  | bot => exact absurd inf_bot h
  | top => exact absurd inf_top h
  | coe r => exact ⟨r, rfl⟩

/-- A sum is infinite exactly when one of its two terms is. -/
theorem inf_add (a b : EReal) : Inf (a + b) ↔ Inf a ∨ Inf b := by
  induction a with
  | bot => simp [Inf]
  | top => induction b with
    | bot => simp [Inf]
    | top => simp [Inf]
    | coe s => simp [Inf]
  | coe r => induction b with
    | bot => simp [Inf]
    | top => simp [Inf]
    | coe s => rw [← EReal.coe_add]; simp only [not_inf_coe, or_self]

/-- A number and its opposite are infinite together. -/
theorem inf_neg (a : EReal) : Inf (-a) ↔ Inf a := by
  simp only [Inf, EReal.neg_eq_top_iff, EReal.neg_eq_bot_iff]; exact or_comm

/-- A difference is infinite exactly when one of its two terms is. -/
theorem inf_sub (a b : EReal) : Inf (a - b) ↔ Inf a ∨ Inf b := by
  rw [sub_eq_add_neg, inf_add, inf_neg]

/-- A product with a nonzero real number is infinite exactly when the other factor is. -/
theorem inf_coe_mul {r : ℝ} (hr : r ≠ 0) (a : EReal) : Inf ((r : EReal) * a) ↔ Inf a := by
  induction a with
  | bot =>
    rcases lt_or_gt_of_ne hr with h | h
    · rw [EReal.coe_mul_bot_of_neg h]; simp [Inf]
    · rw [EReal.coe_mul_bot_of_pos h]
  | top =>
    rcases lt_or_gt_of_ne hr with h | h
    · rw [EReal.coe_mul_top_of_neg h]; simp [Inf]
    · rw [EReal.coe_mul_top_of_pos h]
  | coe s => rw [← EReal.coe_mul]; simp only [not_inf_coe]

/-- The same with the real number on the right. -/
theorem inf_mul_coe {r : ℝ} (hr : r ≠ 0) (a : EReal) : Inf (a * (r : EReal)) ↔ Inf a := by
  rw [EReal.mul_comm, inf_coe_mul hr]

/-- A finite sum is infinite exactly when one of its terms is. -/
theorem inf_sum {n : ℕ} (f : Fin n → EReal) : Inf (∑ k, f k) ↔ ∃ k, Inf (f k) := by
  induction n with
  | zero => simp [not_inf_coe 0, ← EReal.coe_zero]
  | succ n ih =>
    rw [Fin.sum_univ_succ, inf_add, ih, Fin.exists_fin_succ]

/-- The kernel's twelve combinations of twelve numbers, `h` being its constant one half: four half sums shared by
the twelve results, three more terms each, in the order in which the kernel writes the results. -/
def half {α : Type} [Add α] [Sub α] [Mul α] (h : α) (x : Fin 12 → α) : Fin 12 → α :=
  let t0 := h * (x 0 - x 1 + x 2)
  let t1 := h * (x 4 + x 5 - x 3)
  let t2 := h * (x 11 + x 6 - x 8)
  let t3 := h * (x 10 + x 7 + x 9)
  let s0 := (t0 + t2) + (t3 - t1)
  let s1 := (t0 + t2) - (t3 - t1)
  let s2 := (t0 - t2) + (t1 + t3)
  let s3 := (t0 - t2) - (t1 + t3)
  ![s3 - x 2 - x 3 - x 8, x 0 + x 11 - x 10 - s1, s2 + x 1 - x 5 - x 7, s0 + x 5 - x 6 - x 7,
    x 0 + x 4 + x 10 - s2, s1 + x 1 - x 6 + x 7, s3 + x 1 + x 5 + x 6, s0 + x 4 - x 11 - x 10,
    s2 - x 2 + x 3 - x 9, s1 - x 2 + x 8 + x 9, x 0 - x 4 - x 11 - s3, s0 - x 3 + x 8 - x 9]

/-- Where the twelve-point sign matrix is negative. -/
def neg : Fin 12 → Fin 12 → Bool :=
  ![![false, false, false, false, false, false, false, false, false, false, false, false],
    ![true, false, false, true, false, false, false, true, true, true, false, true],
    ![true, true, false, false, true, false, false, false, true, true, true, false],
    ![true, false, true, false, false, true, false, false, false, true, true, true],
    ![true, true, false, true, false, false, true, false, false, false, true, true],
    ![true, true, true, false, true, false, false, true, false, false, false, true],
    ![true, true, true, true, false, true, false, false, true, false, false, false],
    ![true, false, true, true, true, false, true, false, false, true, false, false],
    ![true, false, false, true, true, true, false, true, false, false, true, false],
    ![true, false, false, false, true, true, true, false, true, false, false, true],
    ![true, true, false, false, false, true, true, true, false, true, false, false],
    ![true, false, true, false, false, false, true, true, true, false, true, false]]

/-- The twelve-point sign matrix. -/
def had (h g : Fin 12) : ℝ := if neg h g then -1 else 1

theorem had_ne_zero (h g : Fin 12) : had h g ≠ 0 := by
  unfold had; split <;> norm_num

/-- Over the real numbers, twice the kernel's combination is the signed sum. -/
theorem half_real (r : Fin 12 → ℝ) (g : Fin 12) : half (1 / 2 : ℝ) r g * 2 = ∑ h, had h g * r h := by
  fin_cases g <;>
  · simp [half, had, neg, Fin.sum_univ_succ]
    ring

/-- The kernel's combinations of real numbers, read as extended reals. -/
theorem half_coe (h : ℝ) (r : Fin 12 → ℝ) (g : Fin 12) :
    half (h : EReal) (fun k => (r k : EReal)) g = ((half h r g : ℝ) : EReal) := by
  fin_cases g <;> simp [half]

/-- The kernel's combinations are infinite as soon as one of the twelve numbers is. -/
theorem inf_half {h : ℝ} (hh : h ≠ 0) (x : Fin 12 → EReal) (k : Fin 12) (hk : Inf (x k)) (g : Fin 12) :
    Inf (half (h : EReal) x g) := by
  generalize hX : (fun k => Inf (x k)) = X at *
  have hx : ∀ k, Inf (x k) ↔ X k := fun k => by rw [← hX]
  rw [hx] at hk
  have hk' : X 0 ∨ X 1 ∨ X 2 ∨ X 3 ∨ X 4 ∨ X 5 ∨ X 6 ∨ X 7 ∨ X 8 ∨ X 9 ∨ X 10 ∨ X 11 := by
    fin_cases k <;> simp only [Fin.reduceFinMk, Fin.zero_eta, Fin.mk_one] at hk <;> simp only [hk, true_or, or_true]
  clear hk hX
  fin_cases g <;>
  · simp [half, inf_add, inf_sub, inf_coe_mul hh, hx]
    rcases hk' with h | h | h | h | h | h | h | h | h | h | h | h <;> simp only [h, true_or, or_true]

/-- Of twelve real numbers, the kernel's form of the rotation is the sign matrix's. -/
theorem rotate_real (r : Fin 12 → ℝ) (c : ℝ) (g : Fin 12) :
    half ((1 / 2 : ℝ) : EReal) (fun k => (r k : EReal)) g * (((2 : ℝ) : EReal) * (c : EReal))
      = (∑ h, ((had h g : ℝ) : EReal) * (r h : EReal)) * (c : EReal) := by
  have e : (∑ h, ((had h g : ℝ) : EReal) * (r h : EReal)) = ((∑ h, had h g * r h : ℝ) : EReal) := by
    simp only [← EReal.coe_mul]
    induction (Finset.univ : Finset (Fin 12)) using Finset.induction_on with
    | empty => simp
    | insert a s ha ih => rw [Finset.sum_insert ha, Finset.sum_insert ha, ih, EReal.coe_add]
  rw [e, half_coe, ← half_real]
  simp only [← EReal.coe_mul]
  congr 1; ring

/-- The sign matrix's sums are infinite as soon as one of the twelve numbers is. -/
theorem inf_signed (x : Fin 12 → EReal) (k : Fin 12) (hk : Inf (x k)) (g : Fin 12) :
    Inf (∑ h, ((had h g : ℝ) : EReal) * x h) :=
  (inf_sum _).mpr ⟨k, (inf_coe_mul (had_ne_zero k g) _).mpr hk⟩

end Cert.Rotate
-- ==== Proof.Quant.lean ====
module

public import Idealize.ShloMosaic.Lib.Pointwise
public import Idealize.ShloMosaic.PureOps.Ideal.Laws
public import Idealize.ShloMosaic.Lib.IdealHost
public import proofs.«01_k».proof.Proof.Rotate

/-! What both programs do with one token's row after the rotation: the row's scale, its codes, and the words of its
codes. Two rows that are equal, or that each hold an infinite entry, have the same scale and the same codes. -/

set_option maxRecDepth 16384

@[expose] public noncomputable section

namespace Cert.Quant

open Idealize Idealize.ShloMosaic Cert.Rotate

/-- The f32 pattern of one half. -/
theorem bits_half : Ideal.ofBits .f32 0x3F000000#32 = ((1 / 2 : ℝ) : EReal) := by
  simp [Ideal.ofBits, Ideal.ieee, -EReal.coe_mul]; norm_num

/-- The f32 pattern of two. -/
theorem bits_two : Ideal.ofBits .f32 0x40000000#32 = ((2 : ℝ) : EReal) := by
  simp [Ideal.ofBits, Ideal.ieee, -EReal.coe_mul]; norm_num

/-- The f32 pattern of seven. -/
theorem bits_seven : Ideal.ofBits .f32 0x40E00000#32 = ((7 : ℝ) : EReal) := by
  simp [Ideal.ofBits, Ideal.ieee, -EReal.coe_mul]; norm_num

/-- The f32 pattern of minus one. -/
theorem bits_neg_one : Ideal.ofBits .f32 0xBF800000#32 = ((-1 : ℝ) : EReal) := by
  simp [Ideal.ofBits, Ideal.ieee, -EReal.coe_mul]; norm_num

/-- The rotation's normalising constant, a nonzero real number. -/
theorem bits_norm : ∃ c : ℝ, c ≠ 0 ∧ Ideal.ofBits .f32 0x3E93CD3A#32 = (c : EReal) := by
  refine ⟨9686330 * (2 : ℝ) ^ (-25 : ℤ), by positivity, ?_⟩
  simp [Ideal.ofBits, Ideal.ieee, -EReal.coe_mul]

/-- The largest absolute value of a row. -/
def peak (z : Fin 1536 → EReal) : EReal :=
  Finset.fold max (Ideal.ofBits .f32 0xFF800000#32) (fun x => FloatOps.absf (F := Ideal) (φ := .f32) (z x)) Finset.univ

/-- A row's scale: one for a zero row, else the largest absolute value over seven. -/
def scale (z : Fin 1536 → EReal) : EReal :=
  if peak z = 0 then 1 else Ideal.div (peak z) (Ideal.ofBits .f32 0x40E00000#32)

/-- A row's code at a place: the entry over the scale, rounded and clipped to -7 and 7. -/
def code (z : Fin 1536 → EReal) (j : Fin 1536) : EReal :=
  min (((7#32 : BitVec 32).toInt : ℝ) : EReal)
    (max (((4294967289#32 : BitVec 32).toInt : ℝ) : EReal) (Ideal.liftRound Ideal.roundHalfEven (Ideal.div (z j) (scale z))))

/-- A row with an infinite entry peaks at plus infinity. -/
theorem peak_of_inf {z : Fin 1536 → EReal} (h : ∃ j, Inf (z j)) : peak z = ⊤ := by
  obtain ⟨j, hj⟩ := h
  refine top_le_iff.mp ((Finset.le_fold_max _).mpr (.inr ⟨j, Finset.mem_univ j, ?_⟩))
  simp only [Ideal.absf_def]
  rcases hj with hj | hj <;> simp [hj]

/-- So its scale is plus infinity. -/
theorem scale_of_inf {z : Fin 1536 → EReal} (h : ∃ j, Inf (z j)) : scale z = ⊤ := by
  have h7 : ((7 : ℝ) : EReal) ≠ 0 := by norm_cast
  rw [scale, peak_of_inf h, if_neg (by simp), bits_seven, Ideal.div, if_neg h7, ← EReal.coe_inv,
    EReal.top_mul_coe_of_pos (by norm_num)]

/-- And each of its codes is the rounding of zero. -/
theorem code_of_inf {z : Fin 1536 → EReal} (h : ∃ j, Inf (z j)) (j : Fin 1536) :
    code z j = min (((7#32 : BitVec 32).toInt : ℝ) : EReal)
      (max (((4294967289#32 : BitVec 32).toInt : ℝ) : EReal) (Ideal.liftRound Ideal.roundHalfEven 0)) := by
  rw [code, scale_of_inf h, Ideal.div, if_neg (by simp), EReal.inv_top, mul_zero]

/-- Two rows that are equal, or that each hold an infinite entry. -/
def Alike (z z' : Fin 1536 → EReal) : Prop := z = z' ∨ (∃ j, Inf (z j)) ∧ ∃ j, Inf (z' j)

/-- Alike rows have one scale. -/
theorem Alike.scale_eq {z z' : Fin 1536 → EReal} (h : Alike z z') : scale z = scale z' := by
  rcases h with rfl | ⟨h, h'⟩
  · rfl
  · rw [scale_of_inf h, scale_of_inf h']

/-- Alike rows have the same codes. -/
theorem Alike.code_eq {z z' : Fin 1536 → EReal} (h : Alike z z') (j : Fin 1536) : code z j = code z' j := by
  rcases h with rfl | ⟨h, h'⟩
  · rfl
  · rw [code_of_inf h, code_of_inf h']

/-- A code is one of the whole numbers from -7 to 7. -/
theorem code_int (z : Fin 1536 → EReal) (j : Fin 1536) : ∃ n : ℤ, -7 ≤ n ∧ n ≤ 7 ∧ code z j = ((n : ℝ) : EReal) := by
  have e7 : (7#32 : BitVec 32).toInt = 7 := by decide
  have em : (4294967289#32 : BitVec 32).toInt = -7 := by decide
  unfold code
  rw [e7, em]
  generalize Ideal.div (z j) (scale z) = q
  induction q with
  | bot => exact ⟨-7, by decide, by decide, by rw [Ideal.liftRound_bot, max_eq_left bot_le, min_eq_right]; norm_cast⟩
  | top => exact ⟨7, by decide, by decide, by rw [Ideal.liftRound_top, max_eq_right le_top, min_eq_left le_top]⟩
  | coe r =>
    refine ⟨min 7 (max (-7) (Ideal.roundHalfEven r)), by omega, by omega, ?_⟩
    rw [Ideal.liftRound_coe, ← EReal.coe_strictMono.monotone.map_max, ← EReal.coe_strictMono.monotone.map_min,
      ← Int.cast_max, ← Int.cast_min]

/-- A code read back from its eight-bit word is the code. -/
theorem code_word (z : Fin 1536 → EReal) (j : Fin 1536) :
    (((FloatOps.fptosi (F := Ideal) (φ := .f32) 8 (code z j) : BitVec 8).toInt : ℝ) : EReal) = code z j := by
  obtain ⟨n, h1, h2, e⟩ := code_int z j
  rw [e]
  have hc : Ideal.toIntClamped (-(2 ^ (8 - 1) : Nat)) ((2 ^ (8 - 1) : Nat) - 1) ((n : ℝ) : EReal) = n := by
    rw [Ideal.toIntClamped_coe]
    simp only [Int.floor_intCast, Int.ceil_intCast, ite_self]
    norm_num
    omega
  have hw : (BitVec.ofInt 8 n).toInt = n := by
    rw [BitVec.toInt_ofInt]
    exact Int.bmod_eq_of_le (by norm_num; omega) (by norm_num; omega)
  have : (Ideal.fptosi 8 ((n : ℝ) : EReal)).toInt = n := by
    unfold Ideal.fptosi; rw [hc, hw]
  exact congrArg (fun k : ℤ => ((k : ℝ) : EReal)) this

/-- A four-bit code, held in the low bits of a word, as the signed number it stands for. -/
def nibble (v : BitVec 32) : EReal :=
  FloatOps.sitofp (F := Ideal) .f32
    (IntOp.subi v (IntOp.muli 16#32 (BitVec.setWidth 32 (IntOp.cmpi .sge v 8#32))))

/-- The weight of input `k` to an output channel whose packed bytes are `b`: inputs below 768 in the low halves of the
bytes, the others in the high halves. -/
def weight (b : Fin 768 → BitVec 8) (k : Fin 1536) : EReal :=
  if h : k.val < 768 then nibble (IntOp.andi (BitVec.setWidth 32 (b ⟨k.val, h⟩)) 15#32)
  else nibble (IntOp.shrsi .vector (BitVec.setWidth 32 (b ⟨k.val - 768, by omega⟩)) 4#32)

/-- A token's output at one channel: its codes against the channel's weights, by the token's scale and the channel's. -/
def project (z : Fin 1536 → EReal) (b : Fin 768 → BitVec 8) (s : EReal) : EReal :=
  (∑ k, code z k * weight b k) * scale z * s

/-- A token's output is the same from rows that are alike. -/
theorem Alike.project_eq {z z' : Fin 1536 → EReal} (h : Alike z z') (b : Fin 768 → BitVec 8) (s : EReal) :
    project z b s = project z' b s := by
  unfold project
  rw [h.scale_eq]
  simp only [h.code_eq]

end Cert.Quant
-- ==== Proof.KernelTile.lean ====
module

public import proofs.«01_k».proof.Proof.Gen.KernelIdeal.Value
public import Idealize.ShloMosaic.Lib.Pointwise
public import Idealize.ShloMosaic.Lib.WholeRead
public import proofs.«01_k».proof.Proof.Quant

/-! What the kernel computes on one tile of thirty-two tokens, row by row: the rotated row, its scale, its codes. -/

set_option maxRecDepth 16384

@[expose] public noncomputable section

namespace Cert.KernelIdeal.Value

open Idealize Idealize.ShloMosaic Idealize.SL.Sem Cert.KernelIdeal.Gen Idealize.ShloMosaic.Tactic
open Cert.Rotate Cert.Quant

section Tiles

variable {F : FTy → Type} [FloatOps F]

/-- The rotated, normalised rows of one tile of thirty-two tokens. -/
def zTile (X : Vec F S32x1536 .bf16) : FVec F S32x1536 .f32 :=
  k0_pay33 k0_pay5 (k0_pay7 X) (k0_pay8 X) (k0_pay9 X) (k0_pay10 X) (k0_pay11 X) (k0_pay12 X) (k0_pay13 X)
    (k0_pay14 X) (k0_pay15 X) (k0_pay16 X) (k0_pay17 X) (k0_pay18 X) (k0_pay27 X) (k0_pay28 X) (k0_pay29 X)
    (k0_pay30 X) (k0_pay31 X) (k0_pay32 X)

/-- The scales of one tile of thirty-two tokens. -/
def scTile (X : Vec F S32x1536 .bf16) : FVec F S32x1 .f32 :=
  k0_pay34 k0_pay5 (k0_pay7 X) (k0_pay8 X) (k0_pay9 X) (k0_pay10 X) (k0_pay11 X) (k0_pay12 X) (k0_pay13 X)
    (k0_pay14 X) (k0_pay15 X) (k0_pay16 X) (k0_pay17 X) (k0_pay18 X) (k0_pay27 X) (k0_pay28 X) (k0_pay29 X)
    (k0_pay30 X) (k0_pay31 X) (k0_pay32 X)

/-- The codes, still as numbers, of one tile of thirty-two tokens. -/
def cTile (X : Vec F S32x1536 .bf16) : FVec F S32x1536 .f32 :=
  k0_pay35 k0_pay5 (k0_pay7 X) (k0_pay8 X) (k0_pay9 X) (k0_pay10 X) (k0_pay11 X) (k0_pay12 X) (k0_pay13 X)
    (k0_pay14 X) (k0_pay15 X) (k0_pay16 X) (k0_pay17 X) (k0_pay18 X) (k0_pay27 X) (k0_pay28 X) (k0_pay29 X)
    (k0_pay30 X) (k0_pay31 X) (k0_pay32 X)

end Tiles

/-- Column `128 k + d` of a row: place `d` of head `k`. -/
def col (k : Fin 12) (d : ℕ) (hd : d < 128) : Fin 1536 := ⟨128 * k.val + d, by omega⟩

/-- A token's row as the kernel rotates and normalises it. -/
def zRow (x : Fin 1536 → EReal) (j : Fin 1536) : EReal :=
  half (Ideal.ofBits .f32 0x3F000000#32) (fun k => x (col k (j.val % 128) (Nat.mod_lt _ (by decide))))
      ⟨j.val / 128, by omega⟩
    * (Ideal.ofBits .f32 0x40000000#32 * Ideal.ofBits .f32 0x3E93CD3A#32)

/-- The twelve head slices of a tile. -/
def part (X : Vec Ideal S32x1536 .bf16) : Fin 12 → FVec Ideal S32x128 .f32 :=
  ![k0_pay7 X, k0_pay8 X, k0_pay9 X, k0_pay10 X, k0_pay11 X, k0_pay12 X, k0_pay13 X, k0_pay14 X, k0_pay15 X,
    k0_pay16 X, k0_pay17 X, k0_pay18 X]

/-- A head slice holds its head's columns. -/
theorem part_apply (X : Vec Ideal S32x1536 .bf16) (k : Fin 12) (j0 : Fin 32) (d : Fin 128) :
    part X k (ix2 j0 d) = X (ix2 j0 (col k d.val d.isLt)) := by
  have e : ∀ (n : Fin 1536), n.val = 128 * k.val + d.val → X (ix2 j0 n) = X (ix2 j0 (col k d.val d.isLt)) :=
    fun n hn => by rw [show n = col k d.val d.isLt from Fin.ext hn]
  fin_cases k <;>
  · simp [part]
    pointwise [k0_pay7, k0_pay8, k0_pay9, k0_pay10, k0_pay11, k0_pay12, k0_pay13, k0_pay14, k0_pay15, k0_pay16,
      k0_pay17, k0_pay18, k0_pay6]
    first | rfl | (refine e _ ?_; simp; try omega)

/-- The rotated heads of a tile. -/
def heads (X : Vec Ideal S32x1536 .bf16) (g : Fin 12) : FVec Ideal S32x128 .f32 :=
  fun y => half (Ideal.ofBits .f32 0x3F000000#32) (fun k => part X k y) g

/-- The rotated tile is its heads side by side, times the gain. -/
theorem zTile_eq (X : Vec Ideal S32x1536 .bf16)
    (h : Shape.Concatenates ((List.ofFn fun n : Fin 12 => (⟨S32x128, heads X n⟩ : (s : Shape) × (s.Idx → EReal))).map
      (·.1)) S32x1536 1) :
    zTile X = mulf (φ := .f32) (concatenate S32x1536 1
      (List.ofFn fun n : Fin 12 => (⟨S32x128, heads X n⟩ : (s : Shape) × (s.Idx → EReal))) h)
      (broadcast S32x1536 (k0_pay5 (F := Ideal))) := by
  sl_kernel_rfl

/-- The rotated tile, row by row. -/
theorem zTile_apply (X : Vec Ideal S32x1536 .bf16) (j0 : Fin 32) (j1 : Fin 1536) :
    zTile X (ix2 j0 j1) = zRow (fun k => X (ix2 j0 k)) j1 := by
  have h : Shape.Concatenates ((List.ofFn fun n : Fin 12 => (⟨S32x128, heads X n⟩ : (s : Shape) × (s.Idx → EReal))).map
      (·.1)) S32x1536 1 := by
    simpa [List.ofFn_succ] using
      concatenates_S32x128_S32x128_S32x128_S32x128_S32x128_S32x128_S32x128_S32x128_S32x128_S32x128_S32x128_S32x128_S32x1536_d1
  have hc := concatenate_ofFn_apply (t := S32x1536) (s₁ := S32x128) (1 : Fin 2) (heads X) h
    rfl 128 rfl (ix2 j0 j1) ⟨j1.val / 128, by omega⟩ rfl (ix2 j0 ⟨j1.val % 128, Nat.mod_lt _ (by decide)⟩) rfl
    (fun b hb => by
      match b with
      | ⟨0, _⟩ => rfl
      | ⟨1, _⟩ => exact absurd rfl hb)
  rw [zTile_eq X h]
  refine (congrArg (· * (k0_pay5 (F := Ideal))) hc).trans ?_
  simp only [heads, part_apply]
  rfl

/-- A tile's scales, row by row. -/
theorem scTile_apply (X : Vec Ideal S32x1536 .bf16) (j0 : Fin 32) (j1 : Fin 1) :
    scTile X (ix2 j0 j1) = scale (zRow fun k => X (ix2 j0 k)) := by
  have hz := zTile_apply X j0
  unfold scTile
  unfold zTile at hz
  pointwise [k0_pay34, hz]
  rfl

/-- A tile's codes, row by row. -/
theorem cTile_apply (X : Vec Ideal S32x1536 .bf16) (j0 : Fin 32) (j1 : Fin 1536) :
    cTile X (ix2 j0 j1) = code (zRow fun k => X (ix2 j0 k)) j1 := by
  have hz := zTile_apply X j0 j1
  have hs := scTile_apply X j0 0
  unfold zTile at hz
  unfold scTile at hs
  unfold cTile
  pointwise [k0_pay35, hz, hs]
  rfl

end Cert.KernelIdeal.Value
-- ==== Proof.KernelBlock.lean ====
module

public import proofs.«01_k».proof.Proof.KernelTile

/-! What one grid point of the kernel writes, as tiles: eight groups of thirty-two tokens for the scales and the codes,
six bands of two hundred and fifty-six channels for the product, two halves for the unpacked weights. -/

set_option maxRecDepth 65536

@[expose] public noncomputable section

namespace Cert.KernelIdeal.Value

open Idealize Idealize.ShloMosaic Idealize.SL.Sem Cert.KernelIdeal.Gen Idealize.ShloMosaic.Tactic

variable {F : FTy → Type} [FloatOps F]

/-- A load from a block held at known contents reads those contents. -/
theorem load_whole {s : Shape} {e : EltTy} (a : Memref sig .tc .vmem s e) (ha : a.IsWhole) (x : Vec F s e) (r : Rect s) :
    View.readAt (Elt F) a.view r.toLoadRect (ha.unread x) = View.ld x r := funext fun y => ha.readAt_unread x _ y

/-- The tile of thirty-two tokens from a given row of a block on. -/
def rows (x0 : Vec F S256x1536 .bf16) (off : Fin 2 → ℕ) (h : ∀ a, off a + ![32, 1536] a ≤ S256x1536.size a) :
    Vec F S32x1536 .bf16 := View.ld x0 (Rect.unit (s := S256x1536) off ![32, 1536] h)

/-- One number per token, eight tiles of a function of the tile's tokens. -/
def stack1 {e : EltTy} (f : Vec F S32x1536 .bf16 → Vec F S32x1 e) (x0 : Vec F S256x1536 .bf16) :
    List (View.Piece (Elt F) S256x1 e) :=
  [⟨Rect.unit ![224, 0] S32x1.size inb_S256x1_S32x1_224_0, f (rows x0 ![224, 0] inb_S256x1536_S32x1536_224_0)⟩,
   ⟨Rect.unit ![192, 0] S32x1.size inb_S256x1_S32x1_192_0, f (rows x0 ![192, 0] inb_S256x1536_S32x1536_192_0)⟩,
   ⟨Rect.unit ![160, 0] S32x1.size inb_S256x1_S32x1_160_0, f (rows x0 ![160, 0] inb_S256x1536_S32x1536_160_0)⟩,
   ⟨Rect.unit ![128, 0] S32x1.size inb_S256x1_S32x1_128_0, f (rows x0 ![128, 0] inb_S256x1536_S32x1536_128_0)⟩,
   ⟨Rect.unit ![96, 0] S32x1.size inb_S256x1_S32x1_96_0, f (rows x0 ![96, 0] inb_S256x1536_S32x1536_96_0)⟩,
   ⟨Rect.unit ![64, 0] S32x1.size inb_S256x1_S32x1_64_0, f (rows x0 ![64, 0] inb_S256x1536_S32x1536_64_0)⟩,
   ⟨Rect.unit ![32, 0] S32x1.size inb_S256x1_S32x1_32_0, f (rows x0 ![32, 0] inb_S256x1536_S32x1536_32_0)⟩,
   ⟨Rect.unit ![0, 0] S32x1.size inb_S256x1_S32x1_0_0, f (rows x0 ![0, 0] inb_S256x1536_S32x1536_0_0)⟩]

/-- One row per token, eight tiles of a function of the tile's tokens. -/
def stackRow {e : EltTy} (f : Vec F S32x1536 .bf16 → Vec F S32x1536 e) (x0 : Vec F S256x1536 .bf16) :
    List (View.Piece (Elt F) S256x1536 e) :=
  [⟨Rect.unit ![224, 0] S32x1536.size inb_S256x1536_S32x1536_224_0, f (rows x0 ![224, 0] inb_S256x1536_S32x1536_224_0)⟩,
   ⟨Rect.unit ![192, 0] S32x1536.size inb_S256x1536_S32x1536_192_0, f (rows x0 ![192, 0] inb_S256x1536_S32x1536_192_0)⟩,
   ⟨Rect.unit ![160, 0] S32x1536.size inb_S256x1536_S32x1536_160_0, f (rows x0 ![160, 0] inb_S256x1536_S32x1536_160_0)⟩,
   ⟨Rect.unit ![128, 0] S32x1536.size inb_S256x1536_S32x1536_128_0, f (rows x0 ![128, 0] inb_S256x1536_S32x1536_128_0)⟩,
   ⟨Rect.unit ![96, 0] S32x1536.size inb_S256x1536_S32x1536_96_0, f (rows x0 ![96, 0] inb_S256x1536_S32x1536_96_0)⟩,
   ⟨Rect.unit ![64, 0] S32x1536.size inb_S256x1536_S32x1536_64_0, f (rows x0 ![64, 0] inb_S256x1536_S32x1536_64_0)⟩,
   ⟨Rect.unit ![32, 0] S32x1536.size inb_S256x1536_S32x1536_32_0, f (rows x0 ![32, 0] inb_S256x1536_S32x1536_32_0)⟩,
   ⟨Rect.unit ![0, 0] S32x1536.size inb_S256x1536_S32x1536_0_0, f (rows x0 ![0, 0] inb_S256x1536_S32x1536_0_0)⟩]

/-- The whole block of packed weights, as a load reads it. -/
def whole_w (x1 : Vec F S1536x768 .i8) : Vec F S1536x768 .i8 :=
  View.ld x1 (Rect.unit (s := S1536x768) ![0, 0] ![1536, 768] inb_S1536x768_S1536x768_0_0)

/-- A block's scales, as a load reads them. -/
def whole_s (s : Vec F S256x1 .f32) : Vec F S256x1 .f32 :=
  View.ld s (Rect.unit (s := S256x1) ![0, 0] ![256, 1] inb_S256x1_S256x1_0_0)

/-- A block's codes, as a load reads them. -/
def whole_q (q : Vec F S256x1536 .bf16) : Vec F S256x1536 .bf16 :=
  View.ld q (Rect.unit (s := S256x1536) ![0, 0] ![256, 1536] inb_S256x1536_S256x1536_0_0)

/-- The unpacked weights, in two halves. -/
def unpacked (x1 : Vec F S1536x768 .i8) : List (View.Piece (Elt F) S1536x1536 .bf16) :=
  [⟨Rect.unit ![0, 768] S1536x768.size inb_S1536x1536_S1536x768_0_768, k0_pay4 (whole_w x1)⟩,
   ⟨Rect.unit ![0, 0] S1536x768.size inb_S1536x1536_S1536x768_0_0, k0_pay3 (whole_w x1)⟩]

/-- One band of the product: the codes against a band of the weights, by the token's scale and the channel's. -/
def outTile (sc : Vec F S256x1 .f32) (q : Vec F S256x1536 .bf16) (w : Vec F S256x1536 .bf16) (ws : Vec F S1x256 .f32) :
    FVec F S256x256 .bf16 := k0_pay222 (k0_pay218 (whole_s sc)) (whole_q q) w ws

/-- The product in six bands, from the tokens' scales and codes, the unpacked weights and the channels' scales. -/
def bands (sc : Vec F S256x1 .f32) (q : Vec F S256x1536 .bf16) (wq : Vec F S1536x1536 .bf16) (ws : Vec F S1x1536 .f32) :
    List (View.Piece (Elt F) S256x1536 .bf16) :=
  [⟨Rect.unit ![0, 1280] S256x256.size inb_S256x1536_S256x256_0_1280, outTile sc q (View.ld wq (Rect.unit (s := S1536x1536) ![1280, 0] S256x1536.size inb_S1536x1536_S256x1536_1280_0))
      (View.ld ws (Rect.unit (s := S1x1536) ![0, 1280] S1x256.size inb_S1x1536_S1x256_0_1280))⟩,
   ⟨Rect.unit ![0, 1024] S256x256.size inb_S256x1536_S256x256_0_1024, outTile sc q (View.ld wq (Rect.unit (s := S1536x1536) ![1024, 0] S256x1536.size inb_S1536x1536_S256x1536_1024_0))
      (View.ld ws (Rect.unit (s := S1x1536) ![0, 1024] S1x256.size inb_S1x1536_S1x256_0_1024))⟩,
   ⟨Rect.unit ![0, 768] S256x256.size inb_S256x1536_S256x256_0_768, outTile sc q (View.ld wq (Rect.unit (s := S1536x1536) ![768, 0] S256x1536.size inb_S1536x1536_S256x1536_768_0))
      (View.ld ws (Rect.unit (s := S1x1536) ![0, 768] S1x256.size inb_S1x1536_S1x256_0_768))⟩,
   ⟨Rect.unit ![0, 512] S256x256.size inb_S256x1536_S256x256_0_512, outTile sc q (View.ld wq (Rect.unit (s := S1536x1536) ![512, 0] S256x1536.size inb_S1536x1536_S256x1536_512_0))
      (View.ld ws (Rect.unit (s := S1x1536) ![0, 512] S1x256.size inb_S1x1536_S1x256_0_512))⟩,
   ⟨Rect.unit ![0, 256] S256x256.size inb_S256x1536_S256x256_0_256, outTile sc q (View.ld wq (Rect.unit (s := S1536x1536) ![256, 0] S256x1536.size inb_S1536x1536_S256x1536_256_0))
      (View.ld ws (Rect.unit (s := S1x1536) ![0, 256] S1x256.size inb_S1x1536_S1x256_0_256))⟩,
   ⟨Rect.unit ![0, 0] S256x256.size inb_S256x1536_S256x256_0_0, outTile sc q (View.ld wq (Rect.unit (s := S1536x1536) ![0, 0] S256x1536.size inb_S1536x1536_S256x1536_0_0))
      (View.ld ws (Rect.unit (s := S1x1536) ![0, 0] S1x256.size inb_S1x1536_S1x256_0_0))⟩]

section Runs

variable (c : Dev nD) (i : grid0.Coords)
  (arg1 : Memref sig .tc .vmem S256x1536 .bf16) (harg1 : arg1.IsWhole)
  (arg2 : Memref sig .tc .vmem S1536x768 .i8) (harg2 : arg2.IsWhole)
  (arg3 : Memref sig .tc .vmem S1x1536 .f32) (harg3 : arg3.IsWhole)
  (arg4 : Memref sig .tc .vmem S256x1536 .bf16) (harg4 : arg4.IsWhole)
  (arg5 : Memref sig .tc .vmem S256x1536 .i8) (harg5 : arg5.IsWhole)
  (arg6 : Memref sig .tc .vmem S256x1 .f32) (harg6 : arg6.IsWhole)
  (arg7 : Memref sig .tc .vmem S1536x1536 .bf16) (harg7 : arg7.IsWhole)
  (arg8 : Memref sig .tc .vmem S256x1536 .bf16) (harg8 : arg8.IsWhole)
  (x0 : Vec F S256x1536 .bf16) (x1 : Vec F S1536x768 .i8) (x2 : Vec F S1x1536 .f32) (xs0 : Vec F S1536x1536 .bf16)

/-- The scales the first point writes. -/
theorem scales_A (hc0 : cond0_0 i) : out0_A_5 c i arg1 harg1 arg2 harg2 arg3 harg3 arg4 harg4 arg5 harg5 arg6 harg6 arg7 harg7 arg8 harg8 hc0 x0 x1 x2 = View.canon (stack1 scTile x0) := by
  unfold out0_A_5
  rw [View.read_writes_junk_eq_canon]
  unfold kernelRun0_A
  dsimp only
  sl_unfold_run_names
  simp only [load_whole]
  unfold stack1 scTile rows
  sl_kernel_rfl

/-- The codes the first point writes. -/
theorem codes_A (hc0 : cond0_0 i) : out0_A_4 c i arg1 harg1 arg2 harg2 arg3 harg3 arg4 harg4 arg5 harg5 arg6 harg6 arg7 harg7 arg8 harg8 hc0 x0 x1 x2 = View.canon (stackRow (fun X => k0_pay36 (cTile X)) x0) := by
  unfold out0_A_4
  rw [View.read_writes_junk_eq_canon]
  unfold kernelRun0_A
  dsimp only
  sl_unfold_run_names
  simp only [load_whole]
  unfold stackRow cTile rows
  sl_kernel_rfl

/-- The scales a later point writes. -/
theorem scales_B (hc0 : ¬cond0_0 i) : out0_B_5 c i arg1 harg1 arg2 harg2 arg3 harg3 arg4 harg4 arg5 harg5 arg6 harg6 arg7 harg7 arg8 harg8 hc0 x0 x1 x2 xs0 = View.canon (stack1 scTile x0) := by
  unfold out0_B_5
  rw [View.read_writes_junk_eq_canon]
  unfold kernelRun0_B
  dsimp only
  sl_unfold_run_names
  simp only [load_whole]
  unfold stack1 scTile rows
  sl_kernel_rfl

/-- The codes a later point writes. -/
theorem codes_B (hc0 : ¬cond0_0 i) : out0_B_4 c i arg1 harg1 arg2 harg2 arg3 harg3 arg4 harg4 arg5 harg5 arg6 harg6 arg7 harg7 arg8 harg8 hc0 x0 x1 x2 xs0 = View.canon (stackRow (fun X => k0_pay36 (cTile X)) x0) := by
  unfold out0_B_4
  rw [View.read_writes_junk_eq_canon]
  unfold kernelRun0_B
  dsimp only
  sl_unfold_run_names
  simp only [load_whole]
  unfold stackRow cTile rows
  sl_kernel_rfl

/-- The weights the first point leaves for the later ones. -/
theorem weights_A (hc0 : cond0_0 i) : sout0_A_0 c i arg1 harg1 arg2 harg2 arg3 harg3 arg4 harg4 arg5 harg5 arg6 harg6 arg7 harg7 arg8 harg8 hc0 x0 x1 x2 = View.canon (unpacked x1) := by
  unfold sout0_A_0
  rw [View.read_writes_junk_eq_canon]
  unfold kernelRun0_A
  dsimp only
  sl_unfold_run_names
  simp only [load_whole]
  unfold unpacked whole_w
  sl_kernel_rfl

/-- A later point leaves the weights as they are. -/
theorem weights_B (hc0 : ¬cond0_0 i) : sout0_B_0 c i arg1 harg1 arg2 harg2 arg3 harg3 arg4 harg4 arg5 harg5 arg6 harg6 arg7 harg7 arg8 harg8 hc0 x0 x1 x2 xs0 = xs0 := by
  unfold sout0_B_0
  rfl

end Runs

end Cert.KernelIdeal.Value
-- ==== Proof.KernelOut.lean ====
module

public import proofs.«01_k».proof.Proof.KernelBlock
public import Idealize.ShloMosaic.Lib.Tactic.RunNames

/-! The product one grid point of the kernel writes, in six bands of two hundred and fifty-six channels. -/

set_option maxRecDepth 65536

@[expose] public noncomputable section

namespace Cert.KernelIdeal.Value

open Idealize Idealize.ShloMosaic Idealize.SL.Sem Cert.KernelIdeal.Gen Idealize.ShloMosaic.Tactic

variable {F : FTy → Type} [FloatOps F]

section Runs

variable (c : Dev nD) (i : grid0.Coords)
  (arg1 : Memref sig .tc .vmem S256x1536 .bf16) (harg1 : arg1.IsWhole)
  (arg2 : Memref sig .tc .vmem S1536x768 .i8) (harg2 : arg2.IsWhole)
  (arg3 : Memref sig .tc .vmem S1x1536 .f32) (harg3 : arg3.IsWhole)
  (arg4 : Memref sig .tc .vmem S256x1536 .bf16) (harg4 : arg4.IsWhole)
  (arg5 : Memref sig .tc .vmem S256x1536 .i8) (harg5 : arg5.IsWhole)
  (arg6 : Memref sig .tc .vmem S256x1 .f32) (harg6 : arg6.IsWhole)
  (arg7 : Memref sig .tc .vmem S1536x1536 .bf16) (harg7 : arg7.IsWhole)
  (arg8 : Memref sig .tc .vmem S256x1536 .bf16) (harg8 : arg8.IsWhole)
  (x0 : Vec F S256x1536 .bf16) (x1 : Vec F S1536x768 .i8) (x2 : Vec F S1x1536 .f32) (xs0 : Vec F S1536x1536 .bf16)

/-- The scales standing when the first point reads them back. -/
theorem held_scales_A : kernelRun0_A.sl.H5_8 c arg1 harg1 x0 = stack1 (e := .f32) scTile x0 := by
  sl_unfold_run_names
  simp only [load_whole]
  unfold stack1 scTile rows
  sl_kernel_rfl

/-- The codes standing when the first point reads them back. -/
theorem held_codes_A : kernelRun0_A.sl.HS1_8 c arg1 harg1 x0 = stackRow (fun X => k0_pay37 (cTile X)) x0 := by
  sl_unfold_run_names
  simp only [load_whole]
  unfold stackRow cTile rows
  sl_kernel_rfl

/-- The scales standing when the later point reads them back. -/
theorem held_scales_B : kernelRun0_B.sl.H5_8 c arg1 harg1 x0 = stack1 (e := .f32) scTile x0 := by
  sl_unfold_run_names
  simp only [load_whole]
  unfold stack1 scTile rows
  sl_kernel_rfl

/-- The codes standing when the later point reads them back. -/
theorem held_codes_B : kernelRun0_B.sl.HS1_8 c arg1 harg1 x0 = stackRow (fun X => k0_pay37 (cTile X)) x0 := by
  sl_unfold_run_names
  simp only [load_whole]
  unfold stackRow cTile rows
  sl_kernel_rfl

/-- The weights standing when the first point reads them back. -/
theorem held_weights : kernelRun0_A.sl.HS0_2 c arg2 harg2 x1 = unpacked x1 := by
  sl_unfold_run_names
  simp only [load_whole]
  unfold unpacked whole_w
  sl_kernel_rfl

/-- The product the first point writes. -/
theorem out_A (hc0 : cond0_0 i) : out0_A_3 c i arg1 harg1 arg2 harg2 arg3 harg3 arg4 harg4 arg5 harg5 arg6 harg6 arg7 harg7 arg8 harg8 hc0 x0 x1 x2 = View.canon (bands (View.canon (stack1 (e := .f32) scTile x0))
    (View.canon (stackRow (e := .bf16) (fun X => k0_pay37 (cTile X)) x0)) (View.canon (unpacked x1)) x2) := by
  unfold out0_A_3
  rw [View.read_writes_junk_eq_canon]
  unfold kernelRun0_A
  dsimp only
  sl_unfold_run_values
  simp only [load_whole, View.readCov_eq_canon', held_scales_A, held_codes_A, held_weights]
  generalize View.canon (stack1 (e := .f32) scTile x0) = s
  generalize View.canon (stackRow (e := .bf16) (fun X => k0_pay37 (cTile X)) x0) = q
  generalize View.canon (unpacked x1) = w
  unfold bands outTile whole_s whole_q
  sl_kernel_rfl

/-- The product a later point writes. -/
theorem out_B (hc0 : ¬cond0_0 i) : out0_B_3 c i arg1 harg1 arg2 harg2 arg3 harg3 arg4 harg4 arg5 harg5 arg6 harg6 arg7 harg7 arg8 harg8 hc0 x0 x1 x2 xs0 = View.canon (bands (View.canon (stack1 (e := .f32) scTile x0))
    (View.canon (stackRow (e := .bf16) (fun X => k0_pay37 (cTile X)) x0)) xs0 x2) := by
  unfold out0_B_3
  rw [View.read_writes_junk_eq_canon]
  unfold kernelRun0_B
  dsimp only
  sl_unfold_run_values
  simp only [load_whole, View.readCov_eq_canon', held_scales_B, held_codes_B]
  generalize View.canon (stack1 (e := .f32) scTile x0) = s
  generalize View.canon (stackRow (e := .bf16) (fun X => k0_pay37 (cTile X)) x0) = q
  unfold bands outTile whole_s whole_q
  sl_kernel_rfl

end Runs

end Cert.KernelIdeal.Value
-- ==== Proof.KernelValue.lean ====
module

public import proofs.«01_k».proof.Proof.KernelOut
public import Idealize.ShloMosaic.PureOps.Ideal.Laws

/-! The tiles of one grid point put together: what its blocks hold, token by token and channel by channel. -/

set_option maxRecDepth 16384

@[expose] public noncomputable section

namespace Cert.KernelIdeal.Value

open Idealize Idealize.ShloMosaic Idealize.SL.Sem Cert.KernelIdeal.Gen Idealize.ShloMosaic.Tactic
open Cert.Rotate Cert.Quant

/-- Eight tiles of one number per token hold, at a token, that token's number. -/
theorem canon_stack1 {e : EltTy} (f : Vec Ideal S32x1536 .bf16 → Vec Ideal S32x1 e) (g : (Fin 1536 → EReal) → Elt Ideal e)
    (h : ∀ X j0 j1, f X (ix2 j0 j1) = g fun k => X (ix2 j0 k)) (x0 : Vec Ideal S256x1536 .bf16) :
    View.canon (stack1 f x0) = fun y => g fun k => x0 (ix2 (y 0) k) := by
  have piece : ∀ (o : ℕ) (h1 : ∀ a, ![o, 0] a + S32x1.size a ≤ S256x1.size a)
      (h2 : ∀ a, ![o, 0] a + ![32, 1536] a ≤ S256x1536.size a)
      (x : (Rect.unit (s := S256x1) ![o, 0] S32x1.size h1).shape.Idx),
      f (rows x0 ![o, 0] h2) x = g fun k => x0 (ix2 ((Rect.unit (s := S256x1) ![o, 0] S32x1.size h1).emb x 0) k) := by
    intro o h1 h2 x
    have hx : x = ix2 (n0 := 32) (n1 := 1) (x 0) (x 1) := by
      funext a; match a with | ⟨0, _⟩ => rfl | ⟨1, _⟩ => rfl
    conv_lhs => rw [hx]
    refine (h _ _ _).trans (congrArg g (funext fun k => congrArg x0 (funext fun a => Fin.ext ?_)))
    match a with
    | ⟨0, _⟩ => rfl
    | ⟨1, _⟩ => exact (Nat.zero_add _).trans (Nat.one_mul _)
  funext y
  have cover : ∀ y, ∃ p ∈ stack1 f x0, y ∈ p.1.set := View.cover_of_tiledL _ ![32, 1] (by sl_kernel_rfl)
  refine View.canon_apply_of_pieces (Val := Elt Ideal) (fun y : S256x1.Idx => g fun k => x0 (ix2 (y 0) k)) (stack1 f x0) ?_ y (cover y)
  unfold stack1
  simp only [List.forall_mem_cons, List.not_mem_nil, false_imp_iff, implies_true, and_true]
  refine ⟨?_, ?_, ?_, ?_, ?_, ?_, ?_, ?_⟩ <;> exact piece _ _ _

/-- Eight tiles of one row per token hold, at a token, that token's row. -/
theorem canon_stackRow {e : EltTy} (f : Vec Ideal S32x1536 .bf16 → Vec Ideal S32x1536 e)
    (g : (Fin 1536 → EReal) → Fin 1536 → Elt Ideal e)
    (h : ∀ X j0 j1, f X (ix2 j0 j1) = g (fun k => X (ix2 j0 k)) j1) (x0 : Vec Ideal S256x1536 .bf16) :
    View.canon (stackRow f x0) = fun y => g (fun k => x0 (ix2 (y 0) k)) (y 1) := by
  have piece : ∀ (o : ℕ) (h1 : ∀ a, ![o, 0] a + S32x1536.size a ≤ S256x1536.size a)
      (h2 : ∀ a, ![o, 0] a + ![32, 1536] a ≤ S256x1536.size a)
      (x : (Rect.unit (s := S256x1536) ![o, 0] S32x1536.size h1).shape.Idx),
      f (rows x0 ![o, 0] h2) x = g (fun k => x0 (ix2 ((Rect.unit (s := S256x1536) ![o, 0] S32x1536.size h1).emb x 0) k))
        ((Rect.unit (s := S256x1536) ![o, 0] S32x1536.size h1).emb x 1) := by
    intro o h1 h2 x
    have hx : x = ix2 (n0 := 32) (n1 := 1536) (x 0) (x 1) := by
      funext a; match a with | ⟨0, _⟩ => rfl | ⟨1, _⟩ => rfl
    conv_lhs => rw [hx]
    refine (h _ _ _).trans (congrArg₂ g (funext fun k => congrArg x0 (funext fun a => Fin.ext ?_)) (Fin.ext ?_))
    · match a with
      | ⟨0, _⟩ => rfl
      | ⟨1, _⟩ => exact (Nat.zero_add _).trans (Nat.one_mul _)
    · exact ((Nat.zero_add _).trans (Nat.one_mul _)).symm
  funext y
  have cover : ∀ y, ∃ p ∈ stackRow f x0, y ∈ p.1.set := View.cover_of_tiledL _ ![32, 1536] (by sl_kernel_rfl)
  refine View.canon_apply_of_pieces (Val := Elt Ideal) (fun y : S256x1536.Idx => g (fun k => x0 (ix2 (y 0) k)) (y 1)) (stackRow f x0) ?_ y (cover y)
  unfold stackRow
  simp only [List.forall_mem_cons, List.not_mem_nil, false_imp_iff, implies_true, and_true]
  refine ⟨?_, ?_, ?_, ?_, ?_, ?_, ?_, ?_⟩ <;> exact piece _ _ _

/-- The scales of a block. -/
theorem block_scales (x0 : Vec Ideal S256x1536 .bf16) :
    View.canon (stack1 (e := .f32) scTile x0) = fun y => scale (zRow fun k => x0 (ix2 (y 0) k)) :=
  canon_stack1 (e := .f32) scTile (fun x => scale (zRow x)) scTile_apply x0

/-- The codes of a block, as words. -/
theorem block_codes (x0 : Vec Ideal S256x1536 .bf16) :
    View.canon (stackRow (e := .i8) (fun X => k0_pay36 (cTile X)) x0)
      = fun y => FloatOps.fptosi (F := Ideal) (φ := .f32) 8 (code (zRow fun k => x0 (ix2 (y 0) k)) (y 1)) :=
  canon_stackRow (e := .i8) (fun X => k0_pay36 (cTile X))
    (fun x j => FloatOps.fptosi (F := Ideal) (φ := .f32) 8 (code (zRow x) j))
    (fun X j0 j1 => by
      have hc := cTile_apply X j0 j1
      pointwise [k0_pay36, hc]) x0

/-- The codes of a block, as the product reads them. -/
theorem block_q (x0 : Vec Ideal S256x1536 .bf16) :
    View.canon (stackRow (e := .bf16) (fun X => k0_pay37 (cTile X)) x0)
      = fun y => code (zRow fun k => x0 (ix2 (y 0) k)) (y 1) :=
  canon_stackRow (e := .bf16) (fun X => k0_pay37 (cTile X)) (fun x j => code (zRow x) j)
    (fun X j0 j1 => by
      have hc := cTile_apply X j0 j1
      pointwise [k0_pay37, hc]) x0

/-- A whole block of packed weights is read as it is. -/
theorem whole_w_eq (x1 : Vec Ideal S1536x768 .i8) : whole_w x1 = x1 :=
  View.ld_unit_zero (by funext a; fin_cases a <;> rfl) _ x1

/-- A block's scales are read as they are. -/
theorem whole_s_eq (s : Vec Ideal S256x1 .f32) : whole_s s = s :=
  View.ld_unit_zero (by funext a; fin_cases a <;> rfl) _ s

/-- A block's codes are read as they are. -/
theorem whole_q_eq (q : Vec Ideal S256x1536 .bf16) : whole_q q = q :=
  View.ld_unit_zero (by funext a; fin_cases a <;> rfl) _ q

/-- The unpacked weights, channel by channel. -/
theorem block_weights (x1 : Vec Ideal S1536x768 .i8) :
    View.canon (unpacked x1) = fun y => weight (fun k => x1 (ix2 (y 0) k)) (y 1) := by
  have lo : ∀ (j0 : Fin 1536) (j1 : Fin 768), k0_pay3 x1 (ix2 j0 j1)
      = weight (fun k => x1 (ix2 j0 k)) ⟨j1.val, by omega⟩ := by
    intro j0 j1
    pointwise [k0_pay3, k0_pay2]
    rw [weight, dif_pos j1.isLt]; rfl
  have hi : ∀ (j0 : Fin 1536) (j1 : Fin 768), k0_pay4 x1 (ix2 j0 j1)
      = weight (fun k => x1 (ix2 j0 k)) ⟨768 + j1.val, by omega⟩ := by
    intro j0 j1
    have e : (⟨768 + j1.val - 768, by omega⟩ : Fin 768) = j1 := Fin.ext (Nat.add_sub_cancel_left _ _)
    pointwise [k0_pay4, k0_pay2]
    rw [weight, dif_neg (by simp)]
    dsimp only
    rw [e]; rfl
  funext y
  have cover : ∀ y, ∃ p ∈ unpacked x1, y ∈ p.1.set := View.cover_of_tiledL _ ![1536, 768] (by sl_kernel_rfl)
  refine View.canon_apply_of_pieces (Val := Elt Ideal) (fun y : S1536x1536.Idx => weight (fun k => x1 (ix2 (y 0) k)) (y 1)) (unpacked x1) ?_ y (cover y)
  unfold unpacked
  rw [whole_w_eq]
  simp only [List.forall_mem_cons, List.not_mem_nil, false_imp_iff, implies_true, and_true]
  refine ⟨fun x => ?_, fun x => ?_⟩
  · have hx : x = ix2 (n0 := 1536) (n1 := 768) (x 0) (x 1) := by
      funext a; match a with | ⟨0, _⟩ => rfl | ⟨1, _⟩ => rfl
    conv_lhs => rw [hx]
    refine (hi _ _).trans (congrArg₂ weight (funext fun k => congrArg x1 (funext fun a => Fin.ext ?_)) (Fin.ext ?_))
    · match a with
      | ⟨0, _⟩ => exact ((Nat.zero_add _).trans (Nat.one_mul _)).symm
      | ⟨1, _⟩ => rfl
    · exact congrArg (768 + ·) (Nat.one_mul _).symm
  · have hx : x = ix2 (n0 := 1536) (n1 := 768) (x 0) (x 1) := by
      funext a; match a with | ⟨0, _⟩ => rfl | ⟨1, _⟩ => rfl
    conv_lhs => rw [hx]
    refine (lo _ _).trans (congrArg₂ weight (funext fun k => congrArg x1 (funext fun a => Fin.ext ?_)) (Fin.ext ?_))
    · match a with
      | ⟨0, _⟩ => exact ((Nat.zero_add _).trans (Nat.one_mul _)).symm
      | ⟨1, _⟩ => rfl
    · exact ((Nat.zero_add _).trans (Nat.one_mul _)).symm

/-- One band of the product, token by token and channel by channel. -/
theorem outTile_apply (sc : Vec Ideal S256x1 .f32) (q w : Vec Ideal S256x1536 .bf16) (ws : Vec Ideal S1x256 .f32)
    (j0 j1 : Fin 256) :
    outTile sc q w ws (ix2 j0 j1)
      = ((∑ k, (q (ix2 j0 k) * w (ix2 j1 k) : EReal)) * sc (ix2 j0 0) * ws (ix2 0 j1) : EReal) := by
  unfold outTile
  rw [whole_s_eq, whole_q_eq]
  pointwise [k0_pay222, k0_pay218]

/-- The six bands of the product, token by token and channel by channel. -/
theorem block_out (sc : Vec Ideal S256x1 .f32) (q : Vec Ideal S256x1536 .bf16) (wq : Vec Ideal S1536x1536 .bf16)
    (ws : Vec Ideal S1x1536 .f32) :
    View.canon (bands sc q wq ws) = fun y =>
      ((∑ k, (q (ix2 (y 0) k) * wq (ix2 (y 1) k) : EReal)) * sc (ix2 (y 0) 0) * ws (ix2 0 (y 1)) : EReal) := by
  have piece : ∀ (o : ℕ) (h1 : ∀ a, ![0, o] a + S256x256.size a ≤ S256x1536.size a)
      (h2 : ∀ a, ![o, 0] a + S256x1536.size a ≤ S1536x1536.size a)
      (h3 : ∀ a, ![0, o] a + S1x256.size a ≤ S1x1536.size a)
      (x : (Rect.unit (s := S256x1536) ![0, o] S256x256.size h1).shape.Idx),
      outTile sc q (View.ld wq (Rect.unit (s := S1536x1536) ![o, 0] S256x1536.size h2))
          (View.ld ws (Rect.unit (s := S1x1536) ![0, o] S1x256.size h3)) x
        = (fun y : S256x1536.Idx =>
            ((∑ k, (q (ix2 (y 0) k) * wq (ix2 (y 1) k) : EReal)) * sc (ix2 (y 0) 0) * ws (ix2 0 (y 1)) : EReal))
          ((Rect.unit (s := S256x1536) ![0, o] S256x256.size h1).emb x) := by
    intro o h1 h2 h3 x
    have hx : x = ix2 (n0 := 256) (n1 := 256) (x 0) (x 1) := by
      funext a; match a with | ⟨0, _⟩ => rfl | ⟨1, _⟩ => rfl
    have e0 : (Rect.unit (s := S256x1536) ![0, o] S256x256.size h1).emb x 0 = (x 0 : Fin 256) :=
      Fin.ext ((Nat.zero_add _).trans (Nat.one_mul _))
    conv_lhs => rw [hx]
    refine (outTile_apply sc q _ _ _ _).trans ?_
    dsimp only
    rw [e0]
    refine congrArg₂ (· * ·) (congrArg (· * sc (ix2 (x 0) 0)) (Finset.sum_congr rfl fun k _ =>
      congrArg (q (ix2 (x 0) k) * ·) (congrArg wq (funext fun a => Fin.ext ?_)))) (congrArg ws (funext fun a => Fin.ext ?_))
    · match a with
      | ⟨0, _⟩ => rfl
      | ⟨1, _⟩ => exact (Nat.zero_add _).trans (Nat.one_mul _)
    · match a with
      | ⟨0, _⟩ => rfl
      | ⟨1, _⟩ => rfl
  funext y
  have cover : ∀ y, ∃ p ∈ bands sc q wq ws, y ∈ p.1.set := View.cover_of_tiledL _ ![256, 256] (by sl_kernel_rfl)
  refine View.canon_apply_of_pieces (Val := Elt Ideal) (fun y : S256x1536.Idx =>
      ((∑ k, (q (ix2 (y 0) k) * wq (ix2 (y 1) k) : EReal)) * sc (ix2 (y 0) 0) * ws (ix2 0 (y 1)) : EReal)) (bands sc q wq ws) ?_ y (cover y)
  unfold bands
  simp only [List.forall_mem_cons, List.not_mem_nil, false_imp_iff, implies_true, and_true]
  refine ⟨?_, ?_, ?_, ?_, ?_, ?_⟩ <;> exact piece _ _ _ _

end Cert.KernelIdeal.Value
-- ==== Proof.KernelArray.lean ====
module

public import proofs.«01_k».proof.Proof.KernelValue
public import Idealize.ShloMosaic.Lib.StableHlo.ReadAt

/-! What every grid point of the kernel leaves, from the arguments: its block's product, codes and scales. -/

set_option maxRecDepth 16384

@[expose] public noncomputable section

namespace Cert.KernelIdeal.Value

open Idealize Idealize.ShloMosaic Idealize.ShloMosaic.TcCoe Idealize.SL.Sem Cert.KernelIdeal.Gen
open Idealize.ShloMosaic.Tactic
open Cert.Rotate Cert.Quant

variable (m : (ℓ : Loc nD τ sig) → Buf (Elt Ideal) ℓ)

/-- A token's row of the first argument. -/
def tokenRow (c : Dev nD) (i : Fin 8448) (k : Fin 1536) : EReal :=
  m ((c : Thread nD τ).loc main_arg0) (ix3 ⟨i.val / 1408, by omega⟩ ⟨i.val % 1408, by omega⟩ k)

/-- A channel's packed weights. -/
def channelRow (c : Dev nD) (n : Fin 1536) (k : Fin 768) : BitVec 8 :=
  m ((c : Thread nD τ).loc main_arg1) (ix2 n k)

/-- A channel's scale. -/
def channelScale (c : Dev nD) (n : Fin 1536) : EReal := m ((c : Thread nD τ).loc main_arg2) (ix1 n)

/-- The reshaped tokens as the grid finds them. -/
theorem entry_tokens (c : Dev nD) (i : Fin 8448) (k : Fin 1536) : V m c main_v0 (ix2 i k) = tokenRow m c i k := by
  unfold V tokenRow
  after_reads_at

/-- The reshaped channel scales as the grid finds them. -/
theorem entry_scale (c : Dev nD) (n : Fin 1536) : V m c main_v1 (ix2 0 n) = channelScale m c n := by
  unfold V channelScale
  after_reads_at

/-- Where the input windows stand at a point. -/
theorem in_index : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, _)

/-- The grid has thirty-three points. -/
theorem point_lt (t : Fin cfg0.N) : t.val < 33 := lt_of_lt_of_eq t.isLt N_0

/-- The token at a row of a point's block. -/
def token (t : Fin cfg0.N) (r : Fin 256) : Fin 8448 := ⟨256 * t.val + r.val, by have := point_lt t; omega⟩

/-- A point's block of tokens. -/
theorem block_tokens (c : Dev nD) (t : Fin cfg0.N) (r : Fin 256) (k : Fin 1536) :
    (iblk m c 0 t : Vec Ideal S256x1536 .bf16) (ix2 r k) = tokenRow m c (token t r) k := by
  obtain ⟨⟨h0, h1⟩, -⟩ := in_index t
  rw [← entry_tokens]
  unfold iblk
  rw [View.read_apply]
  show V m c main_v0 _ = V m c main_v0 _
  refine congrArg (V m c main_v0) (funext fun a => Fin.ext ?_)
  match a with
  | ⟨0, _⟩ => show win0_0.index t 0 * 256 + 1 * r.val = 256 * t.val + r.val; rw [h0]; omega
  | ⟨1, _⟩ => show win0_0.index t 1 * 1536 + 1 * k.val = k.val; rw [h1]; omega

/-- A point's block of packed weights: all of them. -/
theorem block_packed (c : Dev nD) (t : Fin cfg0.N) (n : Fin 1536) (k : Fin 768) :
    (iblk m c 1 t : Vec Ideal S1536x768 .i8) (ix2 n k) = channelRow m c n k := by
  obtain ⟨-, ⟨h0, h1⟩, -⟩ := in_index t
  unfold iblk channelRow
  rw [View.read_apply]
  show V m c main_arg1 _ = _
  rw [V_main_arg1]
  refine congrArg (m ((c : Thread nD τ).loc main_arg1)) (funext fun a => Fin.ext ?_)
  match a with
  | ⟨0, _⟩ => show win0_1.index t 0 * 1536 + 1 * n.val = n.val; rw [h0]; omega
  | ⟨1, _⟩ => show win0_1.index t 1 * 768 + 1 * k.val = k.val; rw [h1]; omega

/-- A point's block of channel scales: all of them. -/
theorem block_scale (c : Dev nD) (t : Fin cfg0.N) (n : Fin 1536) :
    (iblk m c 2 t : Vec Ideal S1x1536 .f32) (ix2 0 n) = channelScale m c n := by
  obtain ⟨-, -, h0, h1⟩ := in_index t
  rw [← entry_scale]
  unfold iblk
  rw [View.read_apply]
  show V m c main_v1 _ = V m c main_v1 _
  refine congrArg (V m c main_v1) (funext fun a => Fin.ext ?_)
  match a with
  | ⟨0, _⟩ => show win0_2.index t 0 * 1 + 1 * 0 = 0; rw [h0]
  | ⟨1, _⟩ => show win0_2.index t 1 * 1536 + 1 * n.val = n.val; rw [h1]; omega

/-- The rotated row of a token. -/
def zTok (c : Dev nD) (i : Fin 8448) : Fin 1536 → EReal := zRow (tokenRow m c i)

/-- What a point leaves: its product, its codes, its scales, and the unpacked weights. -/
def left (c : Dev nD) (t : Fin cfg0.N) :
    Vec Ideal S256x1536 .bf16 × Vec Ideal S256x1536 .i8 × Vec Ideal S256x1 .f32 × Vec Ideal S1536x1536 .bf16 :=
  (fun y => project (zTok m c (token t (y 0))) (channelRow m c (y 1)) (channelScale m c (y 1)),
   fun y => FloatOps.fptosi (F := Ideal) (φ := .f32) 8 (code (zTok m c (token t (y 0))) (y 1)),
   fun y => scale (zTok m c (token t (y 0))),
   fun y => weight (channelRow m c (y 0)) (y 1))

/-- The rotated row of a token, from a point's block. -/
theorem zRow_block (c : Dev nD) (t : Fin cfg0.N) (r : Fin 256) :
    (zRow fun k => (iblk m c 0 t : Vec Ideal S256x1536 .bf16) (ix2 r k)) = zTok m c (token t r) :=
  congrArg zRow (funext fun k => block_tokens m c t r k)

/-- The unpacked weights, from a point's block. -/
theorem weights_block (c : Dev nD) (t : Fin cfg0.N) :
    View.canon (unpacked (F := Ideal) (iblk m c 1 t)) = (left m c t).2.2.2 := by
  rw [block_weights]
  funext y
  exact congrArg (weight · (y 1)) (funext fun k => block_packed m c t (y 0) k)

/-- The scales, from a point's block. -/
theorem scales_block (c : Dev nD) (t : Fin cfg0.N) :
    View.canon (stack1 (F := Ideal) (e := .f32) scTile (iblk m c 0 t)) = (left m c t).2.2.1 := by
  rw [block_scales]
  funext y
  exact congrArg scale (zRow_block m c t (y 0))

/-- The codes, from a point's block. -/
theorem codes_block (c : Dev nD) (t : Fin cfg0.N) :
    View.canon (stackRow (F := Ideal) (e := .i8) (fun X => k0_pay36 (cTile X)) (iblk m c 0 t)) = (left m c t).2.1 := by
  rw [block_codes]
  funext y
  exact congrArg (fun z => FloatOps.fptosi (F := Ideal) (φ := .f32) 8 (code z (y 1))) (zRow_block m c t (y 0))

/-- The product, from a point's block and the unpacked weights. -/
theorem out_block (c : Dev nD) (t : Fin cfg0.N) :
    View.canon (bands (F := Ideal) (View.canon (stack1 (e := .f32) scTile (iblk m c 0 t)))
      (View.canon (stackRow (e := .bf16) (fun X => k0_pay37 (cTile X)) (iblk m c 0 t))) (left m c t).2.2.2 (iblk m c 2 t))
      = (left m c t).1 := by
  rw [block_out, scales_block, block_q]
  funext y
  have hz := zRow_block m c t (y 0)
  have hs := block_scale m c t (y 1)
  show (∑ k, code (zRow fun k => (iblk m c 0 t : Vec Ideal S256x1536 .bf16) (ix2 (y 0) k)) k
      * weight (channelRow m c (y 1)) k : EReal) * scale (zTok m c (token t (y 0)))
      * (iblk m c 2 t : Vec Ideal S1x1536 .f32) (ix2 0 (y 1)) = _
  rw [hz, hs]
  rfl

/-- What the first point leaves. -/
theorem outs_first (c : Dev nD) (t : Fin cfg0.N) (h0 : t.val % 33 = 0) : outsAt0 m c t.val t.isLt = left m c t := by
  rw [outsAt0_A m c t h0, out_A, codes_A, scales_A, weights_A, weights_block, out_block, codes_block, scales_block]

/-- A later point keeps the unpacked weights. -/
theorem weights_kept (c : Dev nD) (t : Fin cfg0.N) (h0 : ¬t.val % 33 = 0) :
    (outsAt0 m c t.val t.isLt).2.2.2
      = (outsAt0 m c (t.val - 1) (Nat.lt_of_le_of_lt (Nat.sub_le _ _) t.isLt)).2.2.2 := by
  rw [outsAt0_B m c t h0, weights_B]

/-- The unpacked weights stand after every point. -/
theorem weights_left (c : Dev nD) (n : ℕ) :
    ∀ hn : n < cfg0.N, (outsAt0 m c n hn).2.2.2 = fun y => weight (channelRow m c (y 0)) (y 1) := by
  induction n with
  | zero =>
    intro hn
    exact congrArg (·.2.2.2) (outs_first m c ⟨0, hn⟩ (Nat.zero_mod _))
  | succ n ih =>
    intro hn
    have h33 := point_lt ⟨n + 1, hn⟩
    have h0 : ¬(n + 1) % 33 = 0 := by
      rw [Nat.mod_eq_of_lt h33]; exact Nat.succ_ne_zero n
    exact (weights_kept m c ⟨n + 1, hn⟩ h0).trans (ih _)

/-- What a later point leaves. -/
theorem outs_later (c : Dev nD) (t : Fin cfg0.N) (h0 : ¬t.val % 33 = 0) : outsAt0 m c t.val t.isLt = left m c t := by
  have ih : (outsAt0 m c (t.val - 1) (Nat.lt_of_le_of_lt (Nat.sub_le _ _) t.isLt)).2.2.2 = (left m c t).2.2.2 :=
    weights_left m c _ _
  rw [outsAt0_B m c t h0, out_B, codes_B, scales_B, weights_B, ih, out_block, codes_block, scales_block]

/-- What every point leaves. -/
theorem outs_eq (c : Dev nD) (t : Fin cfg0.N) : outsAt0 m c t.val t.isLt = left m c t := by
  by_cases h0 : t.val % 33 = 0
  · exact outs_first m c t h0
  · exact outs_later m c t h0

end Cert.KernelIdeal.Value
-- ==== Proof.KernelResult.lean ====
module

public import proofs.«01_k».proof.Proof.KernelArray

/-! The kernel's three results as whole arrays, token by token and channel by channel. -/

set_option maxRecDepth 16384

@[expose] public noncomputable section

namespace Cert.KernelIdeal.Value

open Idealize Idealize.ShloMosaic Idealize.ShloMosaic.TcCoe Idealize.SL.Sem Cert.KernelIdeal.Gen
open Idealize.ShloMosaic.Tactic
open Cert.Rotate Cert.Quant

variable (m : (ℓ : Loc nD τ sig) → Buf (Elt Ideal) ℓ)

/-- The token at a place, found from its block and its row there. -/
theorem token_split (i : Fin 8448) (h : i.val / 256 < cfg0.N) : token ⟨i.val / 256, h⟩ ⟨i.val % 256, by omega⟩ = i :=
  Fin.ext (Nat.div_add_mod i.val 256)

/-- The kernel's product. -/
theorem G3_apply (c : Dev nD) (i : Fin 8448) (n : Fin 1536) :
    G3 m c (ix2 i n) = project (zTok m c i) (channelRow m c n) (channelScale m c n) := by
  have hp : pt3Of (ix2 i n) = i.val / 256 := by show 1 * (i.val / 256 - 0) + 1 * (n.val / 1536 - 0) = _; omega
  have hN : i.val / 256 < cfg0.N := by rw [show cfg0.N = 33 from N_0]; omega
  have hl : loc3Of (ix2 i n) = ix2 ⟨i.val % 256, by omega⟩ n := by
    funext a; apply Fin.ext
    match a with
    | ⟨0, _⟩ => rfl
    | ⟨1, _⟩ => exact Nat.mod_eq_of_lt n.isLt
  unfold G3
  rw [dif_pos (by rw [hp]; exact hN), fold0_congr m c _ _ _ (by rw [Nat.zero_add]; exact hN) hp,
    ← outsAt0_sweep m c _ hN, outs_eq m c ⟨i.val / 256, hN⟩, hl]
  show project (zTok m c (token ⟨i.val / 256, hN⟩ ⟨i.val % 256, by omega⟩))
    (channelRow m c n) (channelScale m c n) = _
  rw [token_split]

/-- The kernel's codes. -/
theorem G4_apply (c : Dev nD) (i : Fin 8448) (n : Fin 1536) :
    G4 m c (ix2 i n) = FloatOps.fptosi (F := Ideal) (φ := .f32) 8 (code (zTok m c i) n) := by
  have hp : pt4Of (ix2 i n) = i.val / 256 := by show 1 * (i.val / 256 - 0) + 1 * (n.val / 1536 - 0) = _; omega
  have hN : i.val / 256 < cfg0.N := by rw [show cfg0.N = 33 from N_0]; omega
  have hl : loc4Of (ix2 i n) = ix2 ⟨i.val % 256, by omega⟩ n := by
    funext a; apply Fin.ext
    match a with
    | ⟨0, _⟩ => rfl
    | ⟨1, _⟩ => exact Nat.mod_eq_of_lt n.isLt
  unfold G4
  rw [dif_pos (by rw [hp]; exact hN), fold0_congr m c _ _ _ (by rw [Nat.zero_add]; exact hN) hp,
    ← outsAt0_sweep m c _ hN, outs_eq m c ⟨i.val / 256, hN⟩, hl]
  show FloatOps.fptosi (F := Ideal) (φ := .f32) 8 (code (zTok m c
    (token ⟨i.val / 256, hN⟩ ⟨i.val % 256, by omega⟩)) n) = _
  rw [token_split]

/-- The kernel's scales. -/
theorem G5_apply (c : Dev nD) (i : Fin 8448) (n : Fin 1) : G5 m c (ix2 i n) = scale (zTok m c i) := by
  have hp : pt5Of (ix2 i n) = i.val / 256 := by show 1 * (i.val / 256 - 0) + 1 * (n.val / 1 - 0) = _; omega
  have hN : i.val / 256 < cfg0.N := by rw [show cfg0.N = 33 from N_0]; omega
  have hl : loc5Of (ix2 i n) = ix2 ⟨i.val % 256, by omega⟩ n := by
    funext a; apply Fin.ext
    match a with
    | ⟨0, _⟩ => rfl
    | ⟨1, _⟩ => exact Nat.mod_eq_of_lt n.isLt
  unfold G5
  rw [dif_pos (by rw [hp]; exact hN), fold0_congr m c _ _ _ (by rw [Nat.zero_add]; exact hN) hp,
    ← outsAt0_sweep m c _ hN, outs_eq m c ⟨i.val / 256, hN⟩, hl]
  show scale (zTok m c (token ⟨i.val / 256, hN⟩ ⟨i.val % 256, by omega⟩)) = _
  rw [token_split]

end Cert.KernelIdeal.Value
-- ==== Proof.ReferenceTile.lean ====
module

public import proofs.«01_k».proof.Proof.Quant
public import proofs.«01_k».proof.Proof.Gen.ReferenceIdeal.Value
public import Idealize.ShloMosaic.Lib.StableHlo.ReadAt
public import Idealize.ShloMosaic.PureOps.Ideal.Laws
public import Idealize.ShloMosaic.Lib.IdealHost

/-! What the reference's body computes from its rotated rows, read at one place of each value. -/

set_option maxRecDepth 16384

@[expose] public noncomputable section

namespace Cert.ReferenceIdeal.Value

open Idealize Idealize.ShloMosaic Idealize.ShloMosaic.TcCoe Idealize.SL.Sem Cert.ReferenceIdeal.Gen
open Idealize.ShloMosaic.Tactic
open Cert.Rotate Cert.Quant

/-- The body's reshape of its rows keeps their shape, and so does nothing. -/
theorem pay2_eq (X : Vec Ideal S8448x1536 .f32) : k0_pay2 X = X := shapeCast_self X _

/-- The largest value along a row, for a table of any extents. -/
theorem row_max {n0 n1 : ℕ} (src : FVec Ideal ⟨2, ![n0, n1]⟩ .f32) (acc : BitVec 32)
    (h : Shape.Reduces ⟨2, ![n0, n1]⟩ [1] ⟨1, ![n0]⟩) (hφ : FKind.Formats .f32)
    (hacc : acc = FKind.maximumf.neutral .f32 hφ) (i : Fin n0) :
    multiReduction .maximumf [1] ⟨1, ![n0]⟩ src acc h hφ hacc (ix1 i)
      = Finset.fold max (Ideal.ofBits .f32 acc) (fun k : Fin n1 => src (ix2 i k)) Finset.univ := by
  rw [Ideal.multiReduction_maximumf_single]
  refine congrArg (fun f => Finset.fold max (Ideal.ofBits .f32 acc) f Finset.univ) ?_
  funext k
  refine congrArg src ?_
  funext a; apply Fin.ext
  match a with
  | ⟨0, _⟩ => rfl
  | ⟨1, _⟩ => rfl

/-- A row's scale, from the rows' largest absolute values. -/
theorem pay3_of_peaks (X : Vec Ideal S8448x1536 .f32) (i : Fin 8448) (R : FVec Ideal S8448 .f32)
    (hR : multiReduction .maximumf [1] S8448 (absf (F := Ideal) (φ := .f32) X) 0xFF800000#32 reduces_S8448x1536_S8448
      (.inl rfl) rfl = R) (hr : R (ix1 i) = peak (fun k => X (ix2 i k))) :
    k0_pay3 X (ix1 i) = scale (fun k => X (ix2 i k)) := by
  unfold k0_pay3
  rw [pay2_eq, hR]
  pointwise [hr]
  rfl

/-- A row's scale. -/
theorem pay3_apply (X : Vec Ideal S8448x1536 .f32) (i : Fin 8448) :
    k0_pay3 X (ix1 i) = scale (fun k => X (ix2 i k)) :=
  pay3_of_peaks X i _ rfl
    (row_max (absf (F := Ideal) (φ := .f32) X) _ reduces_S8448x1536_S8448 (.inl rfl) rfl i)

/-- A token's scales. -/
theorem pay5_apply (X : Vec Ideal S8448x1536 .f32) (i : Fin 8448) (n : Fin 1) :
    k0_pay5 X (ix2 i n) = scale (fun k => X (ix2 i k)) := by
  have h := pay3_apply X i
  unfold k0_pay5
  generalize k0_pay3 X = Z at *
  pointwise [h]

/-- Rows over their scales, rounded and clipped, as eight-bit words. -/
def codes (Y : FVec Ideal S8448x1536 .f32) (Z : FVec Ideal S8448 .f32) : IVec S8448x1536 8 :=
  fptosi 8 (minimumf (broadcast S8448x1536 (Scalar.sitofp .f32 7#32))
    (maximumf (broadcast S8448x1536 (Scalar.sitofp .f32 4294967289#32))
      (roundeven (divf Y (broadcastTo S8448x1536 (shapeCast S8448x1 Z shapeCasts_S8448_S8448x1)
        broadcasts_S8448x1_S8448x1536)))))

/-- The same at one place. -/
theorem codes_apply (Y : FVec Ideal S8448x1536 .f32) (Z : FVec Ideal S8448 .f32) (i : Fin 8448) (n : Fin 1536)
    (s : EReal) (h : Z (ix1 i) = s) :
    codes Y Z (ix2 i n) = FloatOps.fptosi (F := Ideal) (φ := .f32) 8 (min (((7#32 : BitVec 32).toInt : ℝ) : EReal)
      (max (((4294967289#32 : BitVec 32).toInt : ℝ) : EReal)
        (Ideal.liftRound Ideal.roundHalfEven (Ideal.div (Y (ix2 i n)) s)))) := by
  pointwise [codes, h]

/-- The body's codes are its rows' over its scales. -/
theorem pay4_codes (X : Vec Ideal S8448x1536 .f32) : k0_pay4 X = codes (k0_pay2 X) (k0_pay3 X) := rfl

/-- A token's codes. -/
theorem pay4_apply (X : Vec Ideal S8448x1536 .f32) (i : Fin 8448) (n : Fin 1536) :
    k0_pay4 X (ix2 i n) = FloatOps.fptosi (F := Ideal) (φ := .f32) 8 (code (fun k => X (ix2 i k)) n) := by
  rw [pay4_codes, pay2_eq, codes_apply X _ i n _ (pay3_apply X i)]
  rfl

/-- The low four bits of a packed byte, as a number. -/
theorem pay7_apply (B : Vec Ideal S1536x768 .i8) (n : Fin 1536) (k : Fin 768) :
    k0_pay7 B (ix2 n k) = nibble (IntOp.andi (BitVec.setWidth 32 (B (ix2 n k))) 15#32) := by
  pointwise [k0_pay7, k0_pay6]
  rfl

/-- The high four bits of a packed byte, as a word. -/
theorem pay8_apply (B : Vec Ideal S1536x768 .i8) (n : Fin 1536) (k : Fin 768) :
    k0_pay8 (F := Ideal) B (ix2 n k) = IntOp.shrsi .vector (BitVec.setWidth 32 (B (ix2 n k))) 4#32 := by
  pointwise [k0_pay8, k0_pay6]

/-- Whether that word stands for a negative number. -/
theorem pay9_apply (B : Vec Ideal S1536x768 .i8) (n : Fin 1536) (k : Fin 768) :
    k0_pay9 (F := Ideal) B (ix2 n k) = IntOp.cmpi .sge (k0_pay8 (F := Ideal) B (ix2 n k)) 8#32 := by
  pointwise [k0_pay9]

end Cert.ReferenceIdeal.Value
-- ==== Proof.ReferenceBlock.lean ====
module

public import proofs.«01_k».proof.Proof.ReferenceTile
public import Idealize.ShloMosaic.Lib.Pipeline.ValueKit

/-! What the reference's body leaves in its three results, from its rotated rows, its packed weights and its channels'
scales. -/

set_option maxRecDepth 16384

@[expose] public noncomputable section

namespace Cert.ReferenceIdeal.Value

open Idealize Idealize.ShloMosaic Idealize.ShloMosaic.TcCoe Idealize.SL.Sem Cert.ReferenceIdeal.Gen
open Idealize.ShloMosaic.Tactic
open Cert.Rotate Cert.Quant

/-- The body's product at one place: the codes against the low halves and against the high halves of the bytes. -/
theorem pay1_apply (Z : FVec Ideal S8448 .f32) (Q : IVec S8448x1536 8) (L : FVec Ideal S1536x768 .bf16)
    (H : IVec S1536x768 32) (B : IVec S1536x768 1) (s : Vec Ideal S1536 .f32) (i : Fin 8448) (n : Fin 1536) :
    k0_pay1 (F := Ideal) Z Q L H B s (ix2 i n)
      = ((∑ k : Fin 768, FloatOps.sitofp (F := Ideal) .f32 (Q (ix2 i ⟨k.val, by omega⟩)) * (L (ix2 n k) : EReal)
          + ∑ k : Fin 768, FloatOps.sitofp (F := Ideal) .f32 (Q (ix2 i ⟨768 + k.val, by omega⟩))
              * (FloatOps.sitofp (F := Ideal) .f32
                  (IntOp.subi (H (ix2 n k)) (IntOp.muli 16#32 (BitVec.setWidth 32 (B (ix2 n k))))) : EReal))
          * Z (ix1 i) * s (ix1 n) : EReal) := by
  pointwise [k0_pay1]
  rfl

/-- The sum over all inputs, cut where the weights pass from the low halves of the bytes to the high halves. -/
theorem weight_sum (q : Fin 1536 → EReal) (b : Fin 768 → BitVec 8) :
    ∑ k, q k * weight b k
      = ∑ k : Fin 768, q ⟨k.val, by omega⟩ * nibble (IntOp.andi (BitVec.setWidth 32 (b k)) 15#32)
        + ∑ k : Fin 768, q ⟨768 + k.val, by omega⟩ * nibble (IntOp.shrsi .vector (BitVec.setWidth 32 (b k)) 4#32) := by
  rw [Fin.sum_univ_two_halves 768 768 rfl]
  refine congrArg₂ (· + ·) (Finset.sum_congr rfl fun k _ => ?_) (Finset.sum_congr rfl fun k _ => ?_)
  · rw [weight, dif_pos k.isLt]
  · rw [weight, dif_neg (by simp)]
    refine congrArg (fun x => q ⟨768 + k.val, by omega⟩ * nibble (IntOp.shrsi .vector (BitVec.setWidth 32 (b x)) 4#32)) ?_
    exact Fin.ext (Nat.add_sub_cancel_left 768 k.val)

/-- The codes the body leaves. -/
theorem out4_apply (X : Vec Ideal S8448x1536 .f32) (B : Vec Ideal S1536x768 .i8) (s : Vec Ideal S1536 .f32)
    (i : Fin 8448) (n : Fin 1536) :
    out0_4 X B s (ix2 i n) = FloatOps.fptosi (F := Ideal) (φ := .f32) 8 (code (fun k => X (ix2 i k)) n) := by
  unfold out0_4
  rw [View.ld_unit_zero (by funext a; fin_cases a <;> rfl) _ X,
    View.canon_cons_unit_zero (by funext a; fin_cases a <;> rfl)]
  exact pay4_apply X i n

/-- The scales the body leaves. -/
theorem out5_apply (X : Vec Ideal S8448x1536 .f32) (B : Vec Ideal S1536x768 .i8) (s : Vec Ideal S1536 .f32)
    (i : Fin 8448) (n : Fin 1) : out0_5 X B s (ix2 i n) = scale (fun k => X (ix2 i k)) := by
  unfold out0_5
  rw [View.ld_unit_zero (by funext a; fin_cases a <;> rfl) _ X,
    View.canon_cons_unit_zero (by funext a; fin_cases a <;> rfl)]
  exact pay5_apply X i n

/-- The product from the codes, the bytes and the scales. -/
theorem product_apply (X : Vec Ideal S8448x1536 .f32) (B : Vec Ideal S1536x768 .i8) (s : Vec Ideal S1536 .f32)
    (i : Fin 8448) (n : Fin 1536) :
    k0_pay1 (k0_pay3 X) (k0_pay4 X) (k0_pay7 B) (k0_pay8 (F := Ideal) B) (k0_pay9 (F := Ideal) B) s (ix2 i n)
      = project (fun k => X (ix2 i k)) (fun k => B (ix2 n k)) (s (ix1 n)) := by
  rw [pay1_apply]
  simp only [pay3_apply, pay4_apply, pay7_apply, pay9_apply, pay8_apply]
  rw [project, weight_sum]
  refine congrArg (fun x : EReal => x * scale (fun k => X (ix2 i k)) * s (ix1 n)) (congrArg₂ (· + ·)
    (Finset.sum_congr rfl fun k _ => congrArg (· * _) (code_word _ _))
    (Finset.sum_congr rfl fun k _ => congrArg (· * _) (code_word _ _)))

/-- The product the body leaves. -/
theorem out3_apply (X : Vec Ideal S8448x1536 .f32) (B : Vec Ideal S1536x768 .i8) (s : Vec Ideal S1536 .f32)
    (i : Fin 8448) (n : Fin 1536) :
    out0_3 X B s (ix2 i n) = project (fun k => X (ix2 i k)) (fun k => B (ix2 n k)) (s (ix1 n)) := by
  unfold out0_3
  rw [View.canon_cons_unit_zero (by funext a; fin_cases a <;> rfl),
    View.ld_unit_zero (by funext a; fin_cases a <;> rfl) _ X, View.ld_unit_zero (by funext a; fin_cases a <;> rfl) _ B,
    View.ld_unit_zero (by funext a; fin_cases a <;> rfl) _ s]
  exact product_apply X B s i n

end Cert.ReferenceIdeal.Value
-- ==== Proof.ReferenceArray.lean ====
module

public import proofs.«01_k».proof.Proof.ReferenceBlock

/-! The reference's rotated rows, entry by entry, and its three results as whole arrays. -/

set_option maxRecDepth 16384

@[expose] public noncomputable section

namespace Cert.ReferenceIdeal.Value

open Idealize Idealize.ShloMosaic Idealize.ShloMosaic.TcCoe Idealize.SL.Sem Cert.ReferenceIdeal.Gen
open Idealize.ShloMosaic.Tactic
open Cert.Rotate Cert.Quant

variable (m : (ℓ : Loc nD τ sig) → Buf (Elt Ideal) ℓ)

/-- The table the reference carries is the table of signs. -/
theorem table_words : ∀ h g : Fin 12,
    lit0 (⟨12 * h.val + g.val, by omega⟩ : Fin 144) = if neg h g then 0xBF800000#32 else 0x3F800000#32 := by
  decide +kernel

/-- A table entry, as a number. -/
theorem table_entry (h g : Fin 12) : Ideal.ofBits .f32 (lit0 (S12x12.rowMajor (ix2 h g))) = ((had h g : ℝ) : EReal) := by
  have hv : (S12x12.rowMajor (ix2 h g)).val = 12 * h.val + g.val := by
    rw [Shape.rowMajor_val_two]; show h.val * 12 + g.val = _; omega
  have e : lit0 (S12x12.rowMajor (ix2 h g)) = lit0 (⟨12 * h.val + g.val, by omega⟩ : Fin 144) :=
    congrArg lit0 (Fin.ext hv)
  rw [e, table_words, had]
  cases neg h g
  · simp [Ideal.ofBits, Ideal.ieee, -EReal.coe_mul]; norm_num
  · exact bits_neg_one

/-- A token's row of the first argument. -/
def tokenRow (c : Dev nD) (i : Fin 8448) (k : Fin 1536) : EReal :=
  m ((c : Thread nD τ).loc main_arg0) (ix3 ⟨i.val / 1408, by omega⟩ ⟨i.val % 1408, by omega⟩ k)

/-- A channel's packed bytes. -/
def channelRow (c : Dev nD) (n : Fin 1536) (k : Fin 768) : BitVec 8 := m ((c : Thread nD τ).loc main_arg1) (ix2 n k)

/-- A channel's scale. -/
def channelScale (c : Dev nD) (n : Fin 1536) : EReal := m ((c : Thread nD τ).loc main_arg2) (ix1 n)

/-- A row as the reference rotates and normalises it. -/
def zRow (x : Fin 1536 → EReal) (k : Fin 1536) : EReal :=
  (∑ h : Fin 12, ((had h ⟨k.val / 128, by omega⟩ : ℝ) : EReal) * x ⟨h.val * 128 + k.val % 128, by omega⟩)
    * Ideal.ofBits .f32 0x3E93CD3A#32

/-- The rotated rows the body is given. -/
theorem entry_rows (c : Dev nD) (i : Fin 8448) (k : Fin 1536) :
    V m c main_v6 (ix2 i k) = zRow (tokenRow m c i) k := by
  unfold V
  after_reads_at
  simp only [table_entry]
  rfl

/-- The body's block of rows: all of them. -/
theorem block_rows (c : Dev nD) (t : Fin cfg0.N) (i : Fin 8448) (k : Fin 1536) :
    (iblk m c 0 t : Vec Ideal S8448x1536 .f32) (ix2 i k) = zRow (tokenRow m c i) k := by
  rw [← entry_rows]
  unfold iblk
  rw [View.read_apply]
  show V m c main_v6 _ = V m c main_v6 _
  refine congrArg (V m c main_v6) (funext fun a => Fin.ext ?_)
  match a with
  | ⟨0, _⟩ => exact Pipeline.Window.rect_emb_val_of_index_zero win0_0 t _ rfl _
  | ⟨1, _⟩ => exact Pipeline.Window.rect_emb_val_of_index_zero win0_0 t _ rfl _

/-- The body's block of packed weights: all of them. -/
theorem block_packed (c : Dev nD) (t : Fin cfg0.N) (n : Fin 1536) (k : Fin 768) :
    (iblk m c 1 t : Vec Ideal S1536x768 .i8) (ix2 n k) = channelRow m c n k := by
  unfold iblk channelRow
  rw [View.read_apply]
  show V m c main_arg1 _ = _
  rw [V_main_arg1]
  refine congrArg (m ((c : Thread nD τ).loc main_arg1)) (funext fun a => Fin.ext ?_)
  match a with
  | ⟨0, _⟩ => exact Pipeline.Window.rect_emb_val_of_index_zero win0_1 t _ rfl _
  | ⟨1, _⟩ => exact Pipeline.Window.rect_emb_val_of_index_zero win0_1 t _ rfl _

/-- The body's block of channel scales: all of them. -/
theorem block_scale (c : Dev nD) (t : Fin cfg0.N) (n : Fin 1536) :
    (iblk m c 2 t : Vec Ideal S1536 .f32) (ix1 n) = channelScale m c n := by
  unfold iblk channelScale
  rw [View.read_apply]
  show V m c main_arg2 _ = _
  rw [V_main_arg2]
  refine congrArg (m ((c : Thread nD τ).loc main_arg2)) (funext fun a => Fin.ext ?_)
  match a with
  | ⟨0, _⟩ => exact Pipeline.Window.rect_emb_val_of_index_zero win0_2 t _ rfl _

/-- The one point of the body's run. -/
def point : Fin cfg0.N := ⟨0, by decide⟩

/-- The reference's product. -/
theorem final3_apply (c : Dev nD) (i : Fin 8448) (n : Fin 1536) :
    (dats m 0 c).arrAt 3 cfg0.N (ix2 i n)
      = project (zRow (tokenRow m c i)) (channelRow m c n) (channelScale m c n) := by
  have h := congrFun ((blocks3 m c point (flush0_3 point)).trans (flushed3 m c point)) (ix2 i n)
  rw [View.read_apply] at h
  refine Eq.trans (congrArg ((dats m 0 c).arrAt 3 cfg0.N) (funext fun a => Fin.ext ?_)) (h.trans ((out3_apply _ _ _ i n).trans ?_))
  · match a with
    | ⟨0, _⟩ => exact (Pipeline.Window.rect_emb_val_of_index_zero win0_3 point _ rfl _).symm
    | ⟨1, _⟩ => exact (Pipeline.Window.rect_emb_val_of_index_zero win0_3 point _ rfl _).symm
  · rw [block_scale]
    simp only [block_rows, block_packed]

/-- The reference's codes. -/
theorem final4_apply (c : Dev nD) (i : Fin 8448) (n : Fin 1536) :
    (dats m 0 c).arrAt 4 cfg0.N (ix2 i n)
      = FloatOps.fptosi (F := Ideal) (φ := .f32) 8 (code (zRow (tokenRow m c i)) n) := by
  have h := congrFun ((blocks4 m c point (flush0_4 point)).trans (flushed4 m c point)) (ix2 i n)
  rw [View.read_apply] at h
  refine Eq.trans (congrArg ((dats m 0 c).arrAt 4 cfg0.N) (funext fun a => Fin.ext ?_)) (h.trans ((out4_apply _ _ _ i n).trans ?_))
  · match a with
    | ⟨0, _⟩ => exact (Pipeline.Window.rect_emb_val_of_index_zero win0_4 point _ rfl _).symm
    | ⟨1, _⟩ => exact (Pipeline.Window.rect_emb_val_of_index_zero win0_4 point _ rfl _).symm
  · simp only [block_rows]

/-- The reference's scales. -/
theorem final5_apply (c : Dev nD) (i : Fin 8448) (n : Fin 1) :
    (dats m 0 c).arrAt 5 cfg0.N (ix2 i n) = scale (zRow (tokenRow m c i)) := by
  have h := congrFun ((blocks5 m c point (flush0_5 point)).trans (flushed5 m c point)) (ix2 i n)
  rw [View.read_apply] at h
  refine Eq.trans (congrArg ((dats m 0 c).arrAt 5 cfg0.N) (funext fun a => Fin.ext ?_)) (h.trans ((out5_apply _ _ _ i n).trans ?_))
  · match a with
    | ⟨0, _⟩ => exact (Pipeline.Window.rect_emb_val_of_index_zero win0_5 point _ rfl _).symm
    | ⟨1, _⟩ => exact (Pipeline.Window.rect_emb_val_of_index_zero win0_5 point _ rfl _).symm
  · simp only [block_rows]

end Cert.ReferenceIdeal.Value
-- ==== Proof.Equation.lean ====
module

public import proofs.«01_k».proof.Proof.KernelResult
public import proofs.«01_k».proof.Proof.ReferenceArray

/-! The two programs' rotations of one row: they agree when the row is finite, and each leaves an infinite entry when it
is not. Hence the three results agree, from memories that agree on the arguments. -/

set_option maxRecDepth 16384

@[expose] public noncomputable section

namespace Cert.Equation

open Idealize Idealize.ShloMosaic Idealize.ShloMosaic.TcCoe Idealize.SL.Sem
open Cert.Rotate Cert.Quant
open Cert.KernelIdeal.Value (col)

/-- The twelve entries of a row at one place of its heads. -/
def lane (x : Fin 1536 → EReal) (d : ℕ) (hd : d < 128) (k : Fin 12) : EReal := x (col k d hd)

/-- The kernel's rotated row, lane by lane. -/
theorem kernel_row (x : Fin 1536 → EReal) (j : Fin 1536) :
    Cert.KernelIdeal.Value.zRow x j
      = half (Ideal.ofBits .f32 0x3F000000#32) (lane x (j.val % 128) (Nat.mod_lt _ (by decide))) ⟨j.val / 128, by omega⟩
        * (Ideal.ofBits .f32 0x40000000#32 * Ideal.ofBits .f32 0x3E93CD3A#32) := rfl

/-- The reference's rotated row, lane by lane. -/
theorem reference_row (x : Fin 1536 → EReal) (j : Fin 1536) :
    Cert.ReferenceIdeal.Value.zRow x j
      = (∑ h : Fin 12, ((had h ⟨j.val / 128, by omega⟩ : ℝ) : EReal)
          * lane x (j.val % 128) (Nat.mod_lt _ (by decide)) h) * Ideal.ofBits .f32 0x3E93CD3A#32 := by
  unfold Cert.ReferenceIdeal.Value.zRow lane
  refine congrArg (· * _) (Finset.sum_congr rfl fun h _ => congrArg (_ * ·) (congrArg x (Fin.ext ?_)))
  show h.val * 128 + j.val % 128 = 128 * h.val + j.val % 128
  omega

/-- The two rotated rows are alike. -/
theorem rows_alike (x : Fin 1536 → EReal) :
    Alike (Cert.KernelIdeal.Value.zRow x) (Cert.ReferenceIdeal.Value.zRow x) := by
  obtain ⟨c, hc, ec⟩ := bits_norm
  by_cases hx : ∃ (d : ℕ) (hd : d < 128) (k : Fin 12), Inf (lane x d hd k)
  · obtain ⟨d, hd, k, hk⟩ := hx
    refine .inr ⟨⟨⟨d, by omega⟩, ?_⟩, ⟨⟨d, by omega⟩, ?_⟩⟩
    · rw [kernel_row, bits_half, bits_two, ec, ← EReal.coe_mul, inf_mul_coe (mul_ne_zero two_ne_zero hc)]
      refine inf_half (by norm_num) _ k ?_ _
      simpa only [Nat.mod_eq_of_lt hd] using hk
    · rw [reference_row, ec, inf_mul_coe hc]
      refine inf_signed _ k ?_ _
      simpa only [Nat.mod_eq_of_lt hd] using hk
  · refine .inl (funext fun j => ?_)
    have hr : ∀ k, ∃ r : ℝ, lane x (j.val % 128) (Nat.mod_lt _ (by decide)) k = (r : EReal) := fun k =>
      exists_coe fun hk => hx ⟨_, _, k, hk⟩
    choose r er using hr
    have el : lane x (j.val % 128) (Nat.mod_lt _ (by decide)) = fun k => ((r k : ℝ) : EReal) := funext er
    rw [kernel_row, reference_row, el, bits_half, bits_two, ec]
    exact rotate_real r c _

section Results

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- A token's rows are alike when the first arguments agree. -/
theorem token_alike
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (i : Fin 8448) :
    Alike (Cert.KernelIdeal.Value.zTok m c i)
      (Cert.ReferenceIdeal.Value.zRow (Cert.ReferenceIdeal.Value.tokenRow m' c i)) := by
  have e : Cert.ReferenceIdeal.Value.tokenRow m' c i = Cert.KernelIdeal.Value.tokenRow m c i := by
    funext k; exact congrFun h0 (ix3 ⟨i.val / 1408, by omega⟩ ⟨i.val % 1408, by omega⟩ k)
  rw [e]
  exact rows_alike _

/-- The products agree. -/
theorem products_eq
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.Gen.dats m' 0 c).arrAt 3 Cert.ReferenceIdeal.cfg0.N = Cert.KernelIdeal.Value.G3 m c := by
  funext y
  have hy : y = ix2 (n0 := 8448) (n1 := 1536) (y 0) (y 1) := by
    funext a; match a with | ⟨0, _⟩ => rfl | ⟨1, _⟩ => rfl
  rw [hy]
  refine (Cert.ReferenceIdeal.Value.final3_apply m' c _ _).trans
    (Eq.trans ?_ (Cert.KernelIdeal.Value.G3_apply m c _ _).symm)
  have e1 : Cert.ReferenceIdeal.Value.channelRow m' c (y 1) = Cert.KernelIdeal.Value.channelRow m c (y 1) := by
    funext k; exact congrFun h1 (ix2 (n0 := 1536) (n1 := 768) (y 1) k)
  have e2 : Cert.ReferenceIdeal.Value.channelScale m' c (y 1) = Cert.KernelIdeal.Value.channelScale m c (y 1) :=
    congrFun h2 (ix1 (n0 := 1536) (y 1))
  rw [e1, e2]
  exact ((token_alike m m' c h0 (y 0)).project_eq _ _).symm

/-- The codes agree. -/
theorem codes_eq
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Cert.ReferenceIdeal.Gen.dats m' 0 c).arrAt 4 Cert.ReferenceIdeal.cfg0.N = Cert.KernelIdeal.Value.G4 m c := by
  funext y
  have hy : y = ix2 (n0 := 8448) (n1 := 1536) (y 0) (y 1) := by
    funext a; match a with | ⟨0, _⟩ => rfl | ⟨1, _⟩ => rfl
  rw [hy]
  refine (Cert.ReferenceIdeal.Value.final4_apply m' c _ _).trans
    (Eq.trans ?_ (Cert.KernelIdeal.Value.G4_apply m c _ _).symm)
  exact congrArg (FloatOps.fptosi (F := Ideal) (φ := .f32) 8) ((token_alike m m' c h0 (y 0)).code_eq (y 1)).symm

/-- The scales agree. -/
theorem scales_eq
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Cert.ReferenceIdeal.Gen.dats m' 0 c).arrAt 5 Cert.ReferenceIdeal.cfg0.N = Cert.KernelIdeal.Value.G5 m c := by
  funext y
  have hy : y = ix2 (n0 := 8448) (n1 := 1) (y 0) (y 1) := by
    funext a; match a with | ⟨0, _⟩ => rfl | ⟨1, _⟩ => rfl
  rw [hy]
  refine (Cert.ReferenceIdeal.Value.final5_apply m' c _ _).trans
    (Eq.trans ?_ (Cert.KernelIdeal.Value.G5_apply m c _ _).symm)
  exact ((token_alike m m' c h0 (y 0)).scale_eq).symm

end Results

end Cert.Equation
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Equation
public import Idealize.ShloMosaic.Adequacy
public import Idealize.ShloMosaic.Init

/-! The claim: the three programs run and leave their arguments and their semaphores as they found them, and the kernel's
three results are the reference's. -/

@[expose] public noncomputable section

namespace Cert.Proof

open Idealize.ShloMosaic Idealize.SL.Sem

/-- The kernel and the reference end with the same three results: the values are the kernel's arrays, and the reference's
arrays are these. -/
theorem same_results :
    @Cert.algebraic_KernelIdeal_ReferenceIdeal Cert.KernelIdeal.Gen.facts Cert.ReferenceIdeal.Gen.facts :=
  fun m g m' g' _ heq =>
    ⟨fun c => Cert.KernelIdeal.Value.G3 m c, fun c => Cert.KernelIdeal.Value.G4 m c,
      fun c => Cert.KernelIdeal.Value.G5 m c, Cert.KernelIdeal.Value.run m g,
      (θ_run _ _ _).mono (fun _ h c =>
          have ⟨h3, h4, h5, ha⟩ := h c
          have ⟨e0, e1, e2⟩ := heq c
          ⟨h3.trans (Cert.Equation.products_eq m m' c e0 e1 e2), h4.trans (Cert.Equation.codes_eq m m' c e0),
            h5.trans (Cert.Equation.scales_eq m m' c e0), ha⟩)
        (Cert.ReferenceIdeal.Value.run_blocks m' g')⟩

/-- Everything claimed. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.ReferenceIdeal.Gen.frame m g, trivial, same_results⟩

end Cert.Proof
